-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mining_is_decided [hPre_mining_is_decided : Cert.Pre_mining_is_decided.Facts] (m : (ℓ : Loc Cert.KernelIdeal.nD Cert.KernelIdeal.τ Cert.KernelIdeal.sig) → Buf (Elt Ideal) ℓ) : Prop :=
  ∀ c : Dev Cert.KernelIdeal.nD,
    (Cert.Pre_mining_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_mining_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_mining_is_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mining_is_decided [hPre_mining_is_decided : Cert.Pre_mining_is_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mining_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_mining_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_mining_is_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mining_is_decided [hKernelIdeal : Cert.KernelIdeal.Facts] [hPre_mining_is_decided : Cert.Pre_mining_is_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mining_is_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mining_is_decided [hReferenceIdeal : Cert.ReferenceIdeal.Facts] [hPre_mining_is_decided : Cert.Pre_mining_is_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mining_is_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mining_is_decided [hKernelIdeal : Cert.KernelIdeal.Facts] [hReferenceIdeal : Cert.ReferenceIdeal.Facts] [hPre_mining_is_decided : Cert.Pre_mining_is_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mining_is_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mining_is_decided : Cert.Pre_mining_is_decided.Facts),
    quiescent_Kernel (hKernel := hKernel)
    ∧ quiescent_KernelIdeal (hKernelIdeal := hKernelIdeal)
    ∧ quiescent_KernelIdeal_pre_mining_is_decided (hKernelIdeal := hKernelIdeal) (hPre_mining_is_decided := hPre_mining_is_decided)
    ∧ quiescent_ReferenceIdeal (hReferenceIdeal := hReferenceIdeal)
    ∧ quiescent_ReferenceIdeal_pre_mining_is_decided (hReferenceIdeal := hReferenceIdeal) (hPre_mining_is_decided := hPre_mining_is_decided)
    ∧ preserves_Kernel_KernelIdeal
    ∧ algebraic_KernelIdeal_ReferenceIdeal_pre_mining_is_decided (hKernelIdeal := hKernelIdeal) (hReferenceIdeal := hReferenceIdeal) (hPre_mining_is_decided := hPre_mining_is_decided)
-- ==== Pre_mining_is_decided.lean ====
abbrev S64x8732x81 : Shape := ⟨3, ![64, 8732, 81]⟩
abbrev S64x8732x4 : Shape := ⟨3, ![64, 8732, 4]⟩
abbrev S64x8732 : Shape := ⟨2, ![64, 8732]⟩
abbrev S_ : Shape := ⟨0, ![]⟩
abbrev S558848x81 : Shape := ⟨2, ![558848, 81]⟩
abbrev S558848x1 : Shape := ⟨2, ![558848, 1]⟩
abbrev S558848x1x1 : Shape := ⟨3, ![558848, 1, 1]⟩
abbrev S1 : Shape := ⟨1, ![1]⟩
abbrev S1x1x1 : Shape := ⟨3, ![1, 1, 1]⟩
abbrev S558848 : Shape := ⟨1, ![558848]⟩
abbrev S64 : Shape := ⟨1, ![64]⟩
abbrev S64x1 : Shape := ⟨2, ![64, 1]⟩

class Facts : Prop where
  bcast_S_S64x8732 : S_.BroadcastsInDim S64x8732 (![] : Fin 0 → Fin S64x8732.rank)
  shapeCasts_S64x8732x81_S558848x81 : S64x8732x81.ShapeCasts S558848x81
  shapeCasts_S64x8732_S558848x1 : S64x8732.ShapeCasts S558848x1
  bcast_S_S558848x1 : S_.BroadcastsInDim S558848x1 (![] : Fin 0 → Fin S558848x1.rank)
  shapeCasts_S558848x1_S558848x1x1 : S558848x1.ShapeCasts S558848x1x1
  bcast_S_S558848x1x1 : S_.BroadcastsInDim S558848x1x1 (![] : Fin 0 → Fin S558848x1x1.rank)
  bcast_S1_S1x1x1_2 : S1.BroadcastsInDim S1x1x1 (![2] : Fin 1 → Fin S1x1x1.rank)
  bcast_S1x1x1_S558848x1x1_0_1_2 : S1x1x1.BroadcastsInDim S558848x1x1 (![0, 1, 2] : Fin 3 → Fin S558848x1x1.rank)
  reducesTo_S558848x1x1_S558848x1_d2 : S558848x1x1.ReducesTo [2] S558848x1
  h_S_ : 0 < S_.numel
  reducesTo_S558848x81_S_d0_1 : S558848x81.ReducesTo [0, 1] S_
  bcast_S_S558848x81 : S_.BroadcastsInDim S558848x81 (![] : Fin 0 → Fin S558848x81.rank)
  reducesTo_S558848x81_S558848_d1 : S558848x81.ReducesTo [1] S558848
  bcast_S558848_S558848x1_0 : S558848.BroadcastsInDim S558848x1 (![0] : Fin 1 → Fin S558848x1.rank)
  shapeCasts_S558848x1_S64x8732 : S558848x1.ShapeCasts S64x8732
  natLt_1_32 : 1 < 32
  reducesTo_S64x8732_S64_d1 : S64x8732.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x8732_0_1 : S64x1.BroadcastsInDim S64x8732 (![0, 1] : Fin 2 → Fin S64x8732.rank)
  bcast_S_S64x8732x81 : S_.BroadcastsInDim S64x8732x81 (![] : Fin 0 → Fin S64x8732x81.rank)
  gather_S558848x81_S558848x1x1_S558848x1_n_1_0_0_1_2_11_wf : GatherDims.WF S558848x81 S558848x1x1 S558848x1 [] [1] [0] [1] [0] 2 ![1, 1]

variable [Facts]

variable {F : FTy → Type} [FloatOps F]
def gather_S558848x81_S558848x1x1_S558848x1_n_1_0_0_1_2_11 : GatherDims S558848x81 S558848x1x1 S558848x1 where
  offsetDims := []
  collapsedSliceDims := [1]
  operandBatchingDims := [0]
  startIndicesBatchingDims := [0]
  startIndexMap := [1]
  indexVectorDim := 2
  sliceSizes := ![1, 1]
  wf := gather_S558848x81_S558848x1x1_S558848x1_n_1_0_0_1_2_11_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_where {F : FTy → Type} [FloatOps F] (arg0 : IVec S64x8732 1) (arg1 : IVec S_ 32) (arg2 : IVec S64x8732 32) : IVec S64x8732 32 :=
  let v0 : IVec S_ 32 := id arg1
  let v1 : IVec S64x8732 32 := broadcastInDim S64x8732 ![] bcast_S_S64x8732 v0
  let v2 : IVec S64x8732 32 := select arg0 v1 arg2
  v2

def fn_take_along_axis {F : FTy → Type} [FloatOps F] (arg0 : FVec F S558848x81 .f32) (arg1 : IVec S558848x1 32) : FVec F S558848x1 .f32 :=
  let c : IVec S_ 32 := constantI S_ 32 0#32
  let v0 : IVec S558848x1 32 := broadcastInDim S558848x1 ![] bcast_S_S558848x1 c
  let v1 : IVec S558848x1 1 := cmpi .slt arg1 v0
  let c_0 : IVec S_ 32 := constantI S_ 32 81#32
  let v2 : IVec S558848x1 32 := broadcastInDim S558848x1 ![] bcast_S_S558848x1 c_0
  let v3 : IVec S558848x1 32 := addi arg1 v2
  let v4 : IVec S558848x1 32 := select v1 v3 arg1
  let v5 : IVec S558848x1x1 32 := shapeCast S558848x1x1 v4 shapeCasts_S558848x1_S558848x1x1
  let c_1 : IVec S1 32 := constantI S1 32 80#32
  let c_2 : IVec S_ 32 := constantI S_ 32 0#32
  let v6 : IVec S558848x1x1 32 := broadcastInDim S558848x1x1 ![] bcast_S_S558848x1x1 c_2
  let v7 : IVec S558848x1x1 1 := cmpi .sge v5 v6
  let v8 : IVec S1x1x1 32 := broadcastInDim S1x1x1 ![2] bcast_S1_S1x1x1_2 c_1
  let v9 : IVec S558848x1x1 32 := broadcastInDim S558848x1x1 ![0, 1, 2] bcast_S1x1x1_S558848x1x1_0_1_2 v8
  let v10 : IVec S558848x1x1 1 := cmpi .sle v5 v9
  let v11 : IVec S558848x1x1 1 := andi v7 v10
  let c_3 : IVec S_ 1 := constantI S_ 1 1#1
  let v12 : IVec S558848x1 1 := (fun x v => Host.reduce IntOp.andi x v reducesTo_S558848x1x1_S558848x1_d2 h_S_) v11 c_3
  let v13 : FVec F S558848x1 .f32 := (fun x i => Host.gather gather_S558848x81_S558848x1x1_S558848x1_n_1_0_0_1_2_11 x i) arg0 v5
  let cst : FVec F S_ .f32 := constant S_ .f32 0x7FC00000#32
  let v14 : FVec F S558848x1 .f32 := broadcastInDim S558848x1 ![] bcast_S_S558848x1 cst
  let v15 : FVec F S558848x1 .f32 := select v12 v13 v14
  v15

def fn_where_0 {F : FTy → Type} [FloatOps F] (arg0 : IVec S558848x1 1) (arg1 : FVec F S_ .f32) (arg2 : FVec F S558848x1 .f32) : FVec F S558848x1 .f32 :=
  let v0 : FVec F S_ .f32 := id arg1
  let v1 : FVec F S558848x1 .f32 := broadcastInDim S558848x1 ![] bcast_S_S558848x1 v0
  let v2 : FVec F S558848x1 .f32 := select arg0 v1 arg2
  v2

def fn_argsort {F : FTy → Type} [FloatOps F] (arg0 : FVec F S64x8732 .f32) : IVec S64x8732 32 :=
  let v0 : IVec S64x8732 32 := iotaInDim S64x8732 32 1
  let v1_0 : FVec F S64x8732 .f32 := (fun x y => (Host.sort2 S64x8732 1 comparator_f32_i32_d1 x y).1) arg0 v0
  let v1_1 : IVec S64x8732 32 := (fun x y => (Host.sort2 S64x8732 1 comparator_f32_i32_d1 x y).2) arg0 v0
  v1_1

def fn_argsort_1 {F : FTy → Type} [FloatOps F] (arg0 : IVec S64x8732 32) : IVec S64x8732 32 :=
  let v0 : IVec S64x8732 32 := iotaInDim S64x8732 32 1
  let v1_0 : IVec S64x8732 32 := (fun x y => (Host.sort2 S64x8732 1 comparator_i32_i32_d1 x y).1) arg0 v0
  let v1_1 : IVec S64x8732 32 := (fun x y => (Host.sort2 S64x8732 1 comparator_i32_i32_d1 x y).2) arg0 v0
  v1_1

def fn_where_2 {F : FTy → Type} [FloatOps F] (arg0 : IVec S64x8732 1) (arg1 : FVec F S64x8732 .f32) (arg2 : FVec F S_ .f32) : FVec F S64x8732 .f32 :=
  let v0 : FVec F S_ .f32 := id arg2
  let v1 : FVec F S64x8732 .f32 := broadcastInDim S64x8732 ![] bcast_S_S64x8732 v0
  let v2 : FVec F S64x8732 .f32 := select arg0 arg1 v1
  v2

def fn_where_3 {F : FTy → Type} [FloatOps F] (arg0 : IVec S64x8732 1) (arg1 : FVec F S_ .f32) (arg2 : FVec F S64x8732 .f32) : FVec F S64x8732 .f32 :=
  let v0 : FVec F S_ .f32 := id arg1
  let v1 : FVec F S64x8732 .f32 := broadcastInDim S64x8732 ![] bcast_S_S64x8732 v0
  let v2 : FVec F S64x8732 .f32 := select arg0 v1 arg2
  v2

def fn_part3 {F : FTy → Type} [FloatOps F] (main_arg2 : IVec S64x8732 32) (main_v44 : IVec S64x1 1) (main_v50 : IVec S64x1 1) (main_v53 : IVec S64x8732x81 1) : IVec S64x8732x81 1 × IVec S64x8732 1 × IVec S64x1 1 :=
  let main_c_16 : IVec S_ 32 := constantI S_ 32 81#32
  let main_v54 : IVec S64x8732 32 := broadcastInDim S64x8732 ![] bcast_S_S64x8732 main_c_16
  let main_v55 : IVec S64x8732 1 := cmpi .slt main_arg2 main_v54
  let main_v56 : IVec S64x1 1 := ori main_v50 main_v44
  (main_v53, main_v55, main_v56)

def fn_part2 {F : FTy → Type} [FloatOps F] (main_arg0 : FVec F S64x8732x81 .f32) (main_arg2 : IVec S64x8732 32) (main_v20 : FVec F S64x8732 .f32) (main_v26 : IVec S64x1 32) (main_v30 : IVec S64x1 32) (main_v32 : IVec S64x8732 1) (main_v35 : FVec F S64x1 .f32) (main_cst_9 : FVec F S_ .f32) : IVec S64x8732x81 1 × IVec S64x8732 1 × IVec S64x1 1 :=
  let main_v36 : FVec F S64x8732 .f32 := fn_where_3 (F := F) main_v32 main_cst_9 main_v20
  let main_cst_10 : FVec F S_ .f32 := constant S_ .f32 0xFF800000#32
  let main_v37 : FVec F S64 .f32 := (fun x v => Host.reduce FloatOps.maximumf x v reducesTo_S64x8732_S64_d1 h_S_) main_v36 main_cst_10
  let main_v38 : FVec F S64x1 .f32 := broadcastInDim S64x1 ![0] bcast_S64_S64x1_0 main_v37
  let main_v39 : FVec F S64x1 .f32 := subf main_v35 main_v38
  let main_cst_11 : FVec F S_ .f32 := constant S_ .f32 0x34000000#32
  let main_v40 : FVec F S64x1 .f32 := broadcastInDim S64x1 ![] bcast_S_S64x1 main_cst_11
  let main_v41 : FVec F S64x1 .f32 := mulf main_v40 main_v35
  let main_cst_12 : FVec F S_ .f32 := constant S_ .f32 0x00800000#32
  let main_v42 : FVec F S64x1 .f32 := broadcastInDim S64x1 ![] bcast_S_S64x1 main_cst_12
  let main_v43 : FVec F S64x1 .f32 := addf main_v41 main_v42
  let main_v44 : IVec S64x1 1 := cmpf .oge main_v39 main_v43
  let main_c_13 : IVec S_ 32 := constantI S_ 32 8732#32
  let main_v45 : IVec S64x1 32 := broadcastInDim S64x1 ![] bcast_S_S64x1 main_c_13
  let main_v46 : IVec S64x1 32 := subi main_v45 main_v26
  let main_v47 : IVec S64x1 1 := cmpi .sge main_v30 main_v46
  let main_c_14 : IVec S_ 32 := constantI S_ 32 0#32
  let main_v48 : IVec S64x1 32 := broadcastInDim S64x1 ![] bcast_S_S64x1 main_c_14
  let main_v49 : IVec S64x1 1 := cmpi .sle main_v30 main_v48
  let main_v50 : IVec S64x1 1 := ori main_v47 main_v49
  let main_v51 : FVec F S64x8732x81 .f32 := Host.absf main_arg0
  let main_cst_15 : FVec F S_ .f32 := constant S_ .f32 0x71800000#32
  let main_v52 : FVec F S64x8732x81 .f32 := broadcastInDim S64x8732x81 ![] bcast_S_S64x8732x81 main_cst_15
  let main_v53 : IVec S64x8732x81 1 := cmpf .ole main_v51 main_v52
  fn_part3 (F := F) main_arg2 main_v44 main_v50 main_v53

def fn_part1 {F : FTy → Type} [FloatOps F] (main_arg0 : FVec F S64x8732x81 .f32) (main_arg2 : IVec S64x8732 32) (main_v4 : IVec S64x8732 1) (main_v17 : IVec S558848x1 1) (main_v18 : FVec F S558848x1 .f32) : IVec S64x8732x81 1 × IVec S64x8732 1 × IVec S64x1 1 :=
  let main_cst_3 : FVec F S_ .f32 := constant S_ .f32 0x00000000#32
  let main_v19 : FVec F S558848x1 .f32 := fn_where_0 (F := F) main_v17 main_cst_3 main_v18
  let main_v20 : FVec F S64x8732 .f32 := shapeCast S64x8732 main_v19 shapeCasts_S558848x1_S64x8732
  let main_v21 : FVec F S64x8732 .f32 := Host.negf main_v20
  let main_v22 : IVec S64x8732 32 := fn_argsort (F := F) main_v21
  let main_v23 : IVec S64x8732 32 := fn_argsort_1 (F := F) main_v22
  let main_v24 : IVec S64x8732 32 := (extui 32 · natLt_1_32) main_v4
  let main_c_4 : IVec S_ 32 := constantI S_ 32 0#32
  let main_v25 : IVec S64 32 := (fun x v => Host.reduce IntOp.addi x v reducesTo_S64x8732_S64_d1 h_S_) main_v24 main_c_4
  let main_v26 : IVec S64x1 32 := broadcastInDim S64x1 ![0] bcast_S64_S64x1_0 main_v25
  let main_c_5 : IVec S_ 32 := constantI S_ 32 3#32
  let main_v27 : IVec S64x1 32 := broadcastInDim S64x1 ![] bcast_S_S64x1 main_c_5
  let main_v28 : IVec S64x1 32 := muli main_v27 main_v26
  let main_c_6 : IVec S_ 32 := constantI S_ 32 8731#32
  let main_v29 : IVec S64x1 32 := broadcastInDim S64x1 ![] bcast_S_S64x1 main_c_6
  let main_v30 : IVec S64x1 32 := minsi main_v28 main_v29
  let main_v31 : IVec S64x8732 32 := broadcastInDim S64x8732 ![0, 1] bcast_S64x1_S64x8732_0_1 main_v30
  let main_v32 : IVec S64x8732 1 := cmpi .slt main_v23 main_v31
  let main_cst_7 : FVec F S_ .f32 := constant S_ .f32 0x7F800000#32
  let main_v33 : FVec F S64x8732 .f32 := fn_where_2 (F := F) main_v32 main_v20 main_cst_7
  let main_cst_8 : FVec F S_ .f32 := constant S_ .f32 0x7F800000#32
  let main_v34 : FVec F S64 .f32 := (fun x v => Host.reduce FloatOps.minimumf x v reducesTo_S64x8732_S64_d1 h_S_) main_v33 main_cst_8
  let main_v35 : FVec F S64x1 .f32 := broadcastInDim S64x1 ![0] bcast_S64_S64x1_0 main_v34
  let main_cst_9 : FVec F S_ .f32 := constant S_ .f32 0x00000000#32
  fn_part2 (F := F) main_arg0 main_arg2 main_v20 main_v26 main_v30 main_v32 main_v35 main_cst_9

def fn {F : FTy → Type} [FloatOps F] (main_arg0 : FVec F S64x8732x81 .f32) (main_arg1 : FVec F S64x8732x4 .f32) (main_arg2 : IVec S64x8732 32) (main_arg3 : FVec F S64x8732x4 .f32) : IVec S64x8732x81 1 × IVec S64x8732 1 × IVec S64x1 1 :=
  let main_c : IVec S_ 32 := constantI S_ 32 0#32
  let main_v0 : IVec S64x8732 32 := broadcastInDim S64x8732 ![] bcast_S_S64x8732 main_c
  let main_v1 : IVec S64x8732 1 := cmpi .slt main_arg2 main_v0
  let main_c_0 : IVec S_ 32 := constantI S_ 32 0#32
  let main_v2 : IVec S64x8732 32 := fn_where (F := F) main_v1 main_c_0 main_arg2
  let main_c_1 : IVec S_ 32 := constantI S_ 32 0#32
  let main_v3 : IVec S64x8732 32 := broadcastInDim S64x8732 ![] bcast_S_S64x8732 main_c_1
  let main_v4 : IVec S64x8732 1 := cmpi .sgt main_v2 main_v3
  let main_v5 : FVec F S558848x81 .f32 := shapeCast S558848x81 main_arg0 shapeCasts_S64x8732x81_S558848x81
  let main_v6 : IVec S558848x1 32 := shapeCast S558848x1 main_v2 shapeCasts_S64x8732_S558848x1
  let main_v7 : FVec F S558848x1 .f32 := fn_take_along_axis (F := F) main_v5 main_v6
  let main_cst : FVec F S_ .f32 := constant S_ .f32 0xFF800000#32
  let main_v8 : FVec F S_ .f32 := (fun x v => Host.reduce FloatOps.maximumf x v reducesTo_S558848x81_S_d0_1 h_S_) main_v5 main_cst
  let main_v9 : FVec F S558848x81 .f32 := broadcastInDim S558848x81 ![] bcast_S_S558848x81 main_v8
  let main_v10 : FVec F S558848x81 .f32 := subf main_v5 main_v9
  let main_v11 : FVec F S558848x81 .f32 := Host.exp main_v10
  let main_cst_2 : FVec F S_ .f32 := constant S_ .f32 0x00000000#32
  let main_v12 : FVec F S558848 .f32 := (fun x v => Host.reduceAdd x v reducesTo_S558848x81_S558848_d1 h_S_) main_v11 main_cst_2
  let main_v13 : FVec F S558848x1 .f32 := broadcastInDim S558848x1 ![0] bcast_S558848_S558848x1_0 main_v12
  let main_v14 : FVec F S558848x1 .f32 := Host.log main_v13
  let main_v15 : FVec F S558848x1 .f32 := broadcastInDim S558848x1 ![] bcast_S_S558848x1 main_v8
  let main_v16 : FVec F S558848x1 .f32 := addf main_v14 main_v15
  let main_v17 : IVec S558848x1 1 := shapeCast S558848x1 main_v4 shapeCasts_S64x8732_S558848x1
  let main_v18 : FVec F S558848x1 .f32 := subf main_v16 main_v7
  fn_part1 (F := F) main_arg0 main_arg2 main_v4 main_v17 main_v18
-- ==== Kernel.lean ====
abbrev S64x8732x81 : Shape := ⟨3, ![64, 8732, 81]⟩
abbrev S64x8732x4 : Shape := ⟨3, ![64, 8732, 4]⟩
abbrev S64x8732 : Shape := ⟨2, ![64, 8732]⟩
abbrev S558848x81 : Shape := ⟨2, ![558848, 81]⟩
abbrev S558848x1 : Shape := ⟨2, ![558848, 1]⟩
abbrev S558848x4 : Shape := ⟨2, ![558848, 4]⟩
abbrev S1x1 : Shape := ⟨2, ![1, 1]⟩
abbrev S4096x81 : Shape := ⟨2, ![4096, 81]⟩
abbrev S4096x1 : Shape := ⟨2, ![4096, 1]⟩
abbrev S4096x4 : Shape := ⟨2, ![4096, 4]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S64x1 : Shape := ⟨2, ![64, 1]⟩
abbrev S64 : Shape := ⟨1, ![64]⟩
abbrev S1x64x1 : Shape := ⟨3, ![1, 64, 1]⟩
abbrev S_ : Shape := ⟨0, ![]⟩

abbrev nBuf : Space → Nat
  | .hbm => 15
  | .vmem => 17
  | .smem => 0
  | _ => 0

abbrev bufTy : (tb : Table) → Fin (tcTables nBuf tb) → BufTy
  | .hbm, ⟨0, _⟩ => ⟨S64x8732x81, .f32⟩
  | .hbm, ⟨1, _⟩ => ⟨S64x8732x4, .f32⟩
  | .hbm, ⟨2, _⟩ => ⟨S64x8732, .i32⟩
  | .hbm, ⟨3, _⟩ => ⟨S64x8732x4, .f32⟩
  | .hbm, ⟨4, _⟩ => ⟨S558848x81, .f32⟩
  | .hbm, ⟨5, _⟩ => ⟨S558848x1, .i32⟩
  | .hbm, ⟨6, _⟩ => ⟨S558848x4, .f32⟩
  | .hbm, ⟨7, _⟩ => ⟨S558848x4, .f32⟩
  | .hbm, ⟨8, _⟩ => ⟨S558848x1, .f32⟩
  | .hbm, ⟨9, _⟩ => ⟨S1x1, .f32⟩
  | .hbm, ⟨10, _⟩ => ⟨S64x8732, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .local _ .vmem, ⟨0, _⟩ => ⟨S4096x81, .f32⟩
  | .local _ .vmem, ⟨1, _⟩ => ⟨S4096x81, .f32⟩
  | .local _ .vmem, ⟨2, _⟩ => ⟨S4096x1, .i32⟩
  | .local _ .vmem, ⟨3, _⟩ => ⟨S4096x1, .i32⟩
  | .local _ .vmem, ⟨4, _⟩ => ⟨S4096x4, .f32⟩
  | .local _ .vmem, ⟨5, _⟩ => ⟨S4096x4, .f32⟩
  | .local _ .vmem, ⟨6, _⟩ => ⟨S4096x4, .f32⟩
  | .local _ .vmem, ⟨7, _⟩ => ⟨S4096x4, .f32⟩
  | .local _ .vmem, ⟨8, _⟩ => ⟨S4096x1, .f32⟩
  | .local _ .vmem, ⟨9, _⟩ => ⟨S4096x1, .f32⟩
  | .local _ .vmem, ⟨10, _⟩ => ⟨S1x1, .f32⟩
  | .local _ .vmem, ⟨11, _⟩ => ⟨S64x8732, .f32⟩
  | .local _ .vmem, ⟨12, _⟩ => ⟨S64x8732, .i32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S64x1, .f32⟩
  | _, _ => ⟨S64x8732x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![137], ![false]⟩

def k0_cond1 (i : grid0.Coords) : BitVec 1 :=
  let arg0 : BitVec 32 := BitVec.ofNat 32 (i 0).val
  let c0_i32_19 : BitVec 32 := 0#32
  let v56 : BitVec 1 := Scalar.cmpi .eq arg0 c0_i32_19
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

@[reducible] def k1_t1_loop : Scf.Loop 32 :=
  let c0_i32_29 : BitVec 32 := 0#32
  let c31_i32 : BitVec 32 := 31#32
  let v67 : BitVec 32 := Scalar.addi c0_i32_29 c31_i32
  let c1_i32 : BitVec 32 := 1#32
  ⟨c0_i32_29, v67, c1_i32⟩
abbrev stage1_0 : Fin 1 → Memref sig .tc .vmem S64x8732 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x8732 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S64x8732x81 : Shape := ⟨3, ![64, 8732, 81]⟩
abbrev S64x8732x4 : Shape := ⟨3, ![64, 8732, 4]⟩
abbrev S64x8732 : Shape := ⟨2, ![64, 8732]⟩
abbrev S_ : Shape := ⟨0, ![]⟩
abbrev S558848x81 : Shape := ⟨2, ![558848, 81]⟩
abbrev S558848x1 : Shape := ⟨2, ![558848, 1]⟩
abbrev S558848x1x1 : Shape := ⟨3, ![558848, 1, 1]⟩
abbrev S1 : Shape := ⟨1, ![1]⟩
abbrev S1x1x1 : Shape := ⟨3, ![1, 1, 1]⟩
abbrev S558848 : Shape := ⟨1, ![558848]⟩
abbrev S64 : Shape := ⟨1, ![64]⟩
abbrev S64x1 : Shape := ⟨2, ![64, 1]⟩
abbrev S64x8732x1 : Shape := ⟨3, ![64, 8732, 1]⟩
abbrev S64x8732x1x1 : Shape := ⟨4, ![64, 8732, 1, 1]⟩
abbrev S1x1x1x1 : Shape := ⟨4, ![1, 1, 1, 1]⟩

abbrev nBuf : Space → Nat
  | .hbm => 146
  | .vmem => 0
  | .smem => 0
  | _ => 0

abbrev hbmTy0_0 (i : Nat) : BufTy := match i % 128 with
  | 0 => ⟨S64x8732x81, .f32⟩
  | 1 => ⟨S64x8732x4, .f32⟩
  | 2 => ⟨S64x8732, .i32⟩
  | 3 => ⟨S64x8732x4, .f32⟩
  | 4 => ⟨S_, .i32⟩
  | 5 => ⟨S64x8732, .i32⟩
  | 6 => ⟨S64x8732, .i1⟩
  | 7 => ⟨S_, .i32⟩
  | 8 => ⟨S_, .i32⟩
  | 9 => ⟨S64x8732, .i32⟩
  | 10 => ⟨S64x8732, .i32⟩
  | 11 => ⟨S_, .i32⟩
  | 12 => ⟨S64x8732, .i32⟩
  | 13 => ⟨S64x8732, .i1⟩
  | 14 => ⟨S558848x81, .f32⟩
  | 15 => ⟨S558848x1, .i32⟩
  | 16 => ⟨S_, .i32⟩
  | 17 => ⟨S558848x1, .i32⟩
  | 18 => ⟨S558848x1, .i1⟩
  | 19 => ⟨S_, .i32⟩
  | 20 => ⟨S558848x1, .i32⟩
  | 21 => ⟨S558848x1, .i32⟩
  | 22 => ⟨S558848x1, .i32⟩
  | 23 => ⟨S558848x1x1, .i32⟩
  | 24 => ⟨S1, .i32⟩
  | 25 => ⟨S_, .i32⟩
  | 26 => ⟨S558848x1x1, .i32⟩
  | 27 => ⟨S558848x1x1, .i1⟩
  | 28 => ⟨S1x1x1, .i32⟩
  | 29 => ⟨S558848x1x1, .i32⟩
  | 30 => ⟨S558848x1x1, .i1⟩
  | 31 => ⟨S558848x1x1, .i1⟩
  | 32 => ⟨S_, .i1⟩
  | 33 => ⟨S558848x1, .i1⟩
  | 34 => ⟨S558848x1, .f32⟩
  | 35 => ⟨S_, .f32⟩
  | 36 => ⟨S558848x1, .f32⟩
  | 37 => ⟨S558848x1, .f32⟩
  | 38 => ⟨S_, .f32⟩
  | 39 => ⟨S_, .f32⟩
  | 40 => ⟨S558848x81, .f32⟩
  | 41 => ⟨S558848x81, .f32⟩
  | 42 => ⟨S558848x81, .f32⟩
  | 43 => ⟨S_, .f32⟩
  | 44 => ⟨S558848, .f32⟩
  | 45 => ⟨S558848x1, .f32⟩
  | 46 => ⟨S558848x1, .f32⟩
  | 47 => ⟨S558848x1, .f32⟩
  | 48 => ⟨S558848x1, .f32⟩
  | 49 => ⟨S558848x1, .f32⟩
  | 50 => ⟨S558848x1, .i1⟩
  | 51 => ⟨S_, .f32⟩
  | 52 => ⟨S_, .f32⟩
  | 53 => ⟨S558848x1, .f32⟩
  | 54 => ⟨S558848x1, .f32⟩
  | 55 => ⟨S64x8732, .f32⟩
  | 56 => ⟨S64x8732, .f32⟩
  | 57 => ⟨S64x8732, .i32⟩
  | 58 => ⟨S64x8732, .f32⟩
  | 59 => ⟨S64x8732, .i32⟩
  | 60 => ⟨S64x8732, .i32⟩
  | 61 => ⟨S64x8732, .i32⟩
  | 62 => ⟨S64x8732, .i32⟩
  | 63 => ⟨S64x8732, .i32⟩
  | 64 => ⟨S_, .i32⟩
  | 65 => ⟨S64, .i32⟩
  | 66 => ⟨S64x1, .i32⟩
  | 67 => ⟨S_, .i32⟩
  | 68 => ⟨S64x1, .i32⟩
  | 69 => ⟨S64x1, .i32⟩
  | 70 => ⟨S_, .i32⟩
  | 71 => ⟨S64x1, .i32⟩
  | 72 => ⟨S64x1, .i32⟩
  | 73 => ⟨S64x8732, .i32⟩
  | 74 => ⟨S64x8732, .i1⟩
  | 75 => ⟨S64x8732, .i1⟩
  | 76 => ⟨S_, .f32⟩
  | 77 => ⟨S64x8732, .f32⟩
  | 78 => ⟨S_, .f32⟩
  | 79 => ⟨S64x8732, .f32⟩
  | 80 => ⟨S64x8732, .f32⟩
  | 81 => ⟨S64x8732x1, .f32⟩
  | 82 => ⟨S64x8732x81, .f32⟩
  | 83 => ⟨S64x8732x81, .f32⟩
  | 84 => ⟨S64x8732x81, .f32⟩
  | 85 => ⟨S_, .f32⟩
  | 86 => ⟨S64x8732, .f32⟩
  | 87 => ⟨S64x8732x1, .f32⟩
  | 88 => ⟨S64x8732x1, .f32⟩
  | 89 => ⟨S64x8732x81, .f32⟩
  | 90 => ⟨S64x8732x81, .f32⟩
  | 91 => ⟨S64x8732x1, .i32⟩
  | 92 => ⟨S_, .i32⟩
  | 93 => ⟨S64x8732x1, .i32⟩
  | 94 => ⟨S64x8732x1, .i1⟩
  | 95 => ⟨S_, .i32⟩
  | 96 => ⟨S64x8732x1, .i32⟩
  | 97 => ⟨S64x8732x1, .i32⟩
  | 98 => ⟨S64x8732x1, .i32⟩
  | 99 => ⟨S64x8732x1x1, .i32⟩
  | 100 => ⟨S1, .i32⟩
  | 101 => ⟨S_, .i32⟩
  | 102 => ⟨S64x8732x1x1, .i32⟩
  | 103 => ⟨S64x8732x1x1, .i1⟩
  | 104 => ⟨S1x1x1x1, .i32⟩
  | 105 => ⟨S64x8732x1x1, .i32⟩
  | 106 => ⟨S64x8732x1x1, .i1⟩
  | 107 => ⟨S64x8732x1x1, .i1⟩
  | 108 => ⟨S_, .i1⟩
  | 109 => ⟨S64x8732x1, .i1⟩
  | 110 => ⟨S64x8732x1, .f32⟩
  | 111 => ⟨S_, .f32⟩
  | 112 => ⟨S64x8732x1, .f32⟩
  | 113 => ⟨S64x8732x1, .f32⟩
  | 114 => ⟨S64x8732, .f32⟩
  | 115 => ⟨S64x8732, .f32⟩
  | 116 => ⟨S64x8732, .f32⟩
  | 117 => ⟨S64x8732, .f32⟩
  | 118 => ⟨S_, .f32⟩
  | 119 => ⟨S_, .f32⟩
  | 120 => ⟨S64x8732x4, .f32⟩
  | 121 => ⟨S64x8732x4, .f32⟩
  | 122 => ⟨S_, .f32⟩
  | 123 => ⟨S64x8732x4, .f32⟩
  | 124 => ⟨S64x8732x4, .i1⟩
  | 125 => ⟨S_, .f32⟩
  | 126 => ⟨S64x8732x4, .f32⟩
  | 127 => ⟨S64x8732x4, .f32⟩
  | _ => ⟨S64x8732x81, .f32⟩

abbrev hbmTy0_1 (i : Nat) : BufTy := match i % 128 with
  | 0 => ⟨S64x8732x4, .f32⟩
  | 1 => ⟨S_, .f32⟩
  | 2 => ⟨S64x8732x4, .f32⟩
  | 3 => ⟨S64x8732x4, .f32⟩
  | 4 => ⟨S64x8732x4, .f32⟩
  | 5 => ⟨S64x8732x1, .i1⟩
  | 6 => ⟨S64x8732x1, .f32⟩
  | 7 => ⟨S64x8732x4, .f32⟩
  | 8 => ⟨S64x8732x4, .f32⟩
  | 9 => ⟨S_, .f32⟩
  | 10 => ⟨S_, .f32⟩
  | 11 => ⟨S_, .i32⟩
  | 12 => ⟨S_, .i32⟩
  | 13 => ⟨S_, .i32⟩
  | 14 => ⟨S_, .i32⟩
  | 15 => ⟨S_, .f32⟩
  | 16 => ⟨S_, .f32⟩
  | 17 => ⟨S_, .f32⟩
  | _ => ⟨S64x8732x81, .f32⟩

abbrev hbmTy (i : Nat) : BufTy := match i / 128 with
  | 0 => hbmTy0_0 i
  | 1 => hbmTy0_1 i
  | _ => ⟨S64x8732x81, .f32⟩

abbrev bufTy : (tb : Table) → Fin (tcTables nBuf tb) → BufTy
  | .hbm, ⟨i, _⟩ => hbmTy i
  | _, _ => ⟨S64x8732x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_call2_v0 : Ref sig .tc := ⟨.hbm, 52, rfl⟩
abbrev main_call2_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call3_v0 : Ref sig .tc := ⟨.hbm, 57, rfl⟩
abbrev main_call3_v1_0 : Ref sig .tc := ⟨.hbm, 58, rfl⟩
abbrev main_v22 : Ref sig .tc := ⟨.hbm, 59, rfl⟩
abbrev main_call4_v0 : Ref sig .tc := ⟨.hbm, 60, rfl⟩
abbrev main_call4_v1_0 : Ref sig .tc := ⟨.hbm, 61, rfl⟩
abbrev main_v23 : Ref sig .tc := ⟨.hbm, 62, rfl⟩
abbrev main_v24 : Ref sig .tc := ⟨.hbm, 63, rfl⟩
abbrev main_c_4 : Ref sig .tc := ⟨.hbm, 64, rfl⟩
abbrev main_v25 : Ref sig .tc := ⟨.hbm, 65, rfl⟩
abbrev main_v26 : Ref sig .tc := ⟨.hbm, 66, rfl⟩
abbrev main_c_5 : Ref sig .tc := ⟨.hbm, 67, rfl⟩
abbrev main_v27 : Ref sig .tc := ⟨.hbm, 68, rfl⟩
abbrev main_v28 : Ref sig .tc := ⟨.hbm, 69, rfl⟩
abbrev main_c_6 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_call5_cst : Ref sig .tc := ⟨.hbm, 76, rfl⟩
abbrev main_call5_v0 : Ref sig .tc := ⟨.hbm, 77, rfl⟩
abbrev main_call5_cst_0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_cst_1 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_v34 : Ref sig .tc := ⟨.hbm, 90, rfl⟩
abbrev main_v35 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_cst : Ref sig .tc := ⟨.hbm, 111, rfl⟩
abbrev main_call6_v14 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_cst_7 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_cst_8 : Ref sig .tc := ⟨.hbm, 122, rfl⟩
abbrev main_v44 : Ref sig .tc := ⟨.hbm, 123, rfl⟩
abbrev main_v45 : Ref sig .tc := ⟨.hbm, 124, rfl⟩
abbrev main_cst_9 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_cst_10 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_11 : Ref sig .tc := ⟨.hbm, 137, rfl⟩
abbrev main_v56 : Ref sig .tc := ⟨.hbm, 138, rfl⟩
abbrev main_c_12 : Ref sig .tc := ⟨.hbm, 139, rfl⟩
abbrev main_v57 : Ref sig .tc := ⟨.hbm, 140, rfl⟩
abbrev main_c_13 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩

abbrev nD : Nat := 1
abbrev τ : Topo := Topo.v7x

variable {F : FTy → Type} [FloatOps F]
-- ==== Proof.IBody0.lean ====
/- The first kernel body, at any value instance: run once on whole staging buffers holding any contents,
   it leaves the four inputs as found, the loss block in the fifth, and the updated partial sum in the sixth. -/
module

public import proofs.«01_k».proof.Proof.Gen.KernelIdeal.Launch
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig Unit (Elt F) ℕ U ℕ

/-- Two zero offsets, as a function. -/
theorem off2_zero : (![0, 0] : Fin 2 → Nat) = fun _ => 0 := funext fun a => by fin_cases a <;> rfl

/-- A load of all of a memref at zero offsets reads what the memref reads. -/
theorem load_all {κ : Kind} {sp : Space} {s : Shape} {e : EltTy} (M : Memref sig κ sp s e)
    {off : Fin s.rank → Nat} (ho : off = fun _ => 0) (inb : ∀ a, off a + s.size a ≤ s.size a) (f : M.view.ty.Contents (Elt F)) :
    M.view.readAt (Elt F) (Rect.unit (s := s) off s.size inb).toLoadRect f = M.view.read (Elt F) f := by
  rw [View.readAt_eq_ld, View.ld_unit_zero (S := s) ho]

/-- After a store over all of a memref at zero offsets, the memref reads the stored vector. -/
theorem store_all {κ : Kind} {sp : Space} {s : Shape} {e : EltTy} (M : Memref sig κ sp s e)
    {off : Fin s.rank → Nat} (ho : off = fun _ => 0) (inb : ∀ a, off a + s.size a ≤ s.size a) (f : M.view.ty.Contents (Elt F))
    (w : s.Idx → Elt F e) (L : List (View.Piece (Elt F) s e)) :
    M.view.read (Elt F) (M.view.writes (Elt F) f (⟨Rect.unit off s.size inb, w⟩ :: L)) = w := by
  subst ho
  rw [View.read_writes_eq_canon _ _ _ fun y => ⟨_, List.mem_cons_self, by
    rw [Rect.mem_set_unit]; intro a; exact ⟨Nat.zero_le _, by have := (y a).isLt; omega⟩⟩]
  exact View.canon_cons_unit_zero rfl inb w L

/-- The partial sum after the body at a point: reset at the first point, added to afterwards. -/
def acc0 (i : grid0.Coords) (x1 : Vec F S4096x1 .i32) (x2 x3 : Vec F S4096x4 .f32) (x5 : Vec F S1x1 .f32) : Vec F S1x1 .f32 :=
  if k0_cond1 i = 1#1 then
    k0_pay1 (BitVec.ofNat 32 (i 0).val) (k0_pay3 (F := F) x1) (k0_pay5 x2 x3) (iota .tc S4096x1 32 [0] iota_S4096x1_d0_w32) 4096#32
  else k0_pay2 (BitVec.ofNat 32 (i 0).val) (k0_pay3 (F := F) x1) (k0_pay5 x2 x3) (iota .tc S4096x1 32 [0] iota_S4096x1_d0_w32) 4096#32 x5

/-- Exactly one of the body's two conditions holds at each point. -/
theorem cond_excl : ∀ t : Fin grid0.N, (k0_cond1 (grid0.coords t) = 1#1 ∧ ¬ k0_cond2 (grid0.coords t) = 1#1 ∧ t.val = 0)
    ∨ (¬ k0_cond1 (grid0.coords t) = 1#1 ∧ k0_cond2 (grid0.coords t) = 1#1 ∧ t.val ≠ 0) := by
  decide +kernel

theorem body0 (c : Dev nD) (E : Set ℕ) (𝒱₀ : Variants) (t : Fin grid0.N)
    (a1 : Memref sig .tc .vmem S4096x81 .f32) (h1 : a1.IsWhole) (a2 : Memref sig .tc .vmem S4096x1 .i32) (h2 : a2.IsWhole)
    (a3 : Memref sig .tc .vmem S4096x4 .f32) (h3 : a3.IsWhole) (a4 : Memref sig .tc .vmem S4096x4 .f32) (h4 : a4.IsWhole)
    (a5 : Memref sig .tc .vmem S4096x1 .f32) (h5 : a5.IsWhole) (a6 : Memref sig .tc .vmem S1x1 .f32) (h6 : a6.IsWhole)
    (x0 : Vec F S4096x81 .f32) (x1 : Vec F S4096x1 .i32) (x2 x3 : Vec F S4096x4 .f32) (x4 : Vec F S4096x1 .f32) (x5 : Vec F S1x1 .f32)
    (K : PUnit → sProp 𝕄) :
    iprop((owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5)
          ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k0_pay4 x0 x1)
            ∗ owns (c : Thread nD τ) a6 fullShare (acc0 (grid0.coords t) x1 x2 x3 x5)) -∗ K ⟨⟩))
      ⊢ wp frame (wpE (defs₀ (F := F)) 𝒱₀ c none) E (cc0__phase1_body (grid0.coords t) a1 h1 a2 h2 a3 h3 a4 h4 a5 h5 a6 h6) K := by
  rw [cc0__phase1_body_eq_skeleton]; unfold cc0__phase1_body_skel
  rw [k0_part1_eq_skeleton]; unfold k0_part1_skel
  simp only [Prog.lift, Prog.bind_op, Prog.bind_ret]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  rcases cond_excl t with ⟨hc1, hc2, -⟩ | ⟨hc1, hc2, -⟩
  · simp only [hc1, hc2, dite_true, dite_false, Prog.bind_op, Prog.bind_ret, pure_bind]
    sl_exec!
    sl_step
    sl_unfold_words
    iapply Hk
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists _; isplitr
      swap; · iexact H4
      ipureintro
      rw [store_all _ off2_zero, load_all _ off2_zero, load_all _ off2_zero, e0, e1]
    · iexists _; isplitr
      swap; · iexact H5
      ipureintro
      rw [store_all _ off2_zero, load_all _ off2_zero, load_all _ off2_zero, load_all _ off2_zero, e1, e2, e3]
      unfold acc0; rw [if_pos hc1]
  · simp only [hc1, hc2, dite_true, dite_false, Prog.bind_op, Prog.bind_ret, pure_bind]
    sl_exec!
    sl_step
    sl_unfold_words
    iapply Hk
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists _; isplitr
      swap; · iexact H4
      ipureintro
      rw [store_all _ off2_zero, load_all _ off2_zero, load_all _ off2_zero, e0, e1]
    · iexists _; isplitr
      swap; · iexact H5
      ipureintro
      rw [store_all _ off2_zero, load_all _ off2_zero, load_all _ off2_zero, load_all _ off2_zero, load_all _ off2_zero, e1, e2, e3, e5]
      unfold acc0; rw [if_neg hc1]

end Cert.KernelIdeal.Own
end
-- ==== Proof.IBody1.lean ====
/- The second kernel body, at any value instance: run on whole staging buffers holding any contents,
   it leaves its inputs as found and the two quotients in its result buffers. -/
module

public import proofs.«01_k».proof.Proof.IBody0
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig Unit (Elt F) ℕ U ℕ

/-- Whether some row of the batch needs its cutoff searched for. -/
def needed1 (x1 : Vec F S64x8732 .i32) : BitVec 1 :=
  Scalar.cmpi .ne (Scalar.extui (Scalar.cmpf (F := F) .ogt (k1_pay1 (k1_pay24 (F := F) x1)) (Scalar.ofBits .f32 0x00000000#32)) : BitVec 32) 0#32

/-- One halving of every row's search interval. -/
def halve1 (x0 : Vec F S64x8732 .f32) (x1 : Vec F S64x8732 .i32) (p : IVec S64x1 32 × IVec S64x1 32) : IVec S64x1 32 × IVec S64x1 32 :=
  (k1_pay6 (k1_pay17 (F := F) x1) (k1_pay19 x0 x1) p.1 p.2, k1_pay7 (k1_pay17 (F := F) x1) (k1_pay19 x0 x1) p.1 p.2)

/-- The lower ends of the search intervals after all the halvings. -/
def cut1 (x0 : Vec F S64x8732 .f32) (x1 : Vec F S64x8732 .i32) : IVec S64x1 32 :=
  ((List.finRange k1_t1_loop.trips).foldl (fun p _ => halve1 x0 x1 p) (k1_pay2, k1_pay3)).1

/-- Each row's sum over its mined entries, as the body leaves it in its scratch buffer. -/
def mined1 (x0 : Vec F S64x8732 .f32) (x1 : Vec F S64x8732 .i32) : Vec F S64x1 .f32 :=
  if needed1 (F := F) x1 = 1#1 then k1_pay8 (k1_pay17 (F := F) x1) (k1_pay19 x0 x1) (k1_pay22 (F := F) x1) (cut1 x0 x1) else k1_pay23

/-- The first result of the second kernel, from the losses and the classes. -/
def conf1 (x0 : Vec F S64x8732 .f32) (x1 : Vec F S64x8732 .i32) : Vec F S1x1 .f32 :=
  k1_pay10 (k1_pay15 x1) (k1_pay18 x0 x1) (k1_pay20 x0 x1) (k1_pay21 (F := F) x1) (mined1 x0 x1)

theorem body1 (c : Dev nD) (E : Set ℕ) (𝒱₀ : Variants)
    (a0 : Memref sig .tc .vmem S64x8732 .f32) (h0 : a0.IsWhole) (a1 : Memref sig .tc .vmem S64x8732 .i32) (h1 : a1.IsWhole)
    (a2 : Memref sig .tc .vmem S1x1 .f32) (h2 : a2.IsWhole) (a3 : Memref sig .tc .vmem S1x1 .f32) (h3 : a3.IsWhole)
    (a4 : Memref sig .tc .vmem S1x1 .f32) (h4 : a4.IsWhole) (a5 : Memref sig .tc .vmem S64x1 .f32) (h5 : a5.IsWhole)
    (x0 : Vec F S64x8732 .f32) (x1 : Vec F S64x8732 .i32) (x2 x3 x4 : Vec F S1x1 .f32) (x5 : Vec F S64x1 .f32)
    (K : PUnit → sProp 𝕄) :
    iprop((owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5)
          ∗ (iprop(∃ x5', owns (c : Thread nD τ) a0 fullShare x0 ∗ owns (c : Thread nD τ) a1 fullShare x1 ∗ owns (c : Thread nD τ) a2 fullShare x2
            ∗ owns (c : Thread nD τ) a3 fullShare (conf1 x0 x1) ∗ owns (c : Thread nD τ) a4 fullShare (k1_pay11 (k1_pay15 x1) x2) ∗ owns (c : Thread nD τ) a5 fullShare x5') -∗ K ⟨⟩))
      ⊢ wp frame (wpE (defs₀ (F := F)) 𝒱₀ c none) E (cc1__phase2_body a0 h0 a1 h1 a2 h2 a3 h3 a4 h4 a5 h5) K := by
  rw [cc1__phase2_body_eq_skeleton]; unfold cc1__phase2_body_skel
  rw [k1_part1_eq_skeleton]; unfold k1_part1_skel k1_t1_body
  simp only [Prog.lift, Prog.bind_op, Prog.bind_ret]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, Hk⟩
  sl_exec!
  sl_step
  have r0 : a0.view.readAt (Elt F) (Rect.unit (s := S64x8732) ![0, 0] S64x8732.size inb_S64x8732_S64x8732_0_0).toLoadRect f0 = x0 := by
    rw [load_all _ off2_zero, e0]
  have r1 : a1.view.readAt (Elt F) (Rect.unit (s := S64x8732) ![0, 0] S64x8732.size inb_S64x8732_S64x8732_0_0).toLoadRect f1 = x1 := by
    rw [load_all _ off2_zero, e1]
  sl_unfold_words
  simp only [r0, r1]
  by_cases hc : needed1 (F := F) x1 = 1#1
  · have hc' := hc
    unfold needed1 at hc'
    simp only [hc', dite_true]
    iapply Hk
    iexists (mined1 x0 x1)
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists _; isplitr
      swap; · iexact H3
      ipureintro
      rw [store_all _ off2_zero, load_all _ off2_zero, store_all _ off2_zero]
      unfold conf1 mined1; rw [if_pos hc]; unfold cut1; rw [Scf.fold_eq]; rfl
    isplitl [H4]
    · iexists _; isplitr
      swap; · iexact H4
      ipureintro
      rw [store_all _ off2_zero, load_all _ off2_zero, e2]
    · iexists _; isplitr
      swap; · iexact H5
      ipureintro
      rw [store_all _ off2_zero]
      unfold mined1; rw [if_pos hc]; unfold cut1; rw [Scf.fold_eq]; rfl
  · have hc' := hc
    unfold needed1 at hc'
    simp only [hc', dite_false]
    iapply Hk
    iexists (mined1 x0 x1)
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists _; isplitr
      swap; · iexact H3
      ipureintro
      rw [store_all _ off2_zero, load_all _ off2_zero, store_all _ off2_zero]
      unfold conf1 mined1; rw [if_neg hc]
    isplitl [H4]
    · iexists _; isplitr
      swap; · iexact H4
      ipureintro
      rw [store_all _ off2_zero, load_all _ off2_zero, e2]
    · iexists _; isplitr
      swap; · iexact H5
      ipureintro
      rw [store_all _ off2_zero]
      unfold mined1; rw [if_neg hc]

end Cert.KernelIdeal.Own
end
-- ==== Proof.IData.lean ====
/- The two kernels' proof data, at any value instance, read off a valuation of the arrays, and what each body owes
   at every grid point. What a body leaves in an output buffer is stated as a relation, since the rows of the last
   block beyond the arrays' end hold contents nothing determines. -/
module

public import proofs.«01_k».proof.Proof.IBody0
public import proofs.«01_k».proof.Proof.IBody1

@[expose] public section

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (arrRef RDat)

variable {F : FTy → Type} [FloatOps F]
variable {U : Type} [URA U]

local notation "𝕄" => MT nD τ sig Unit (Elt F) ℕ U ℕ

/-- What the first call finds in window `w`'s staging buffer at point `t`: the block of the array, and in the part
    beyond the array's end what `d` says. -/
def blk0 (V : Valuation τ sig (Elt F)) (w : Fin cfg0.W) (t : Fin cfg0.N) (d : (cfg0.win w).block.Idx → Elt F (cfg0.win w).elt) :
    (cfg0.win w).block.Idx → Elt F (cfg0.win w).elt :=
  (cfg0.win w).fill (cfg0.grid.coords t) d
    (((cfg0.win w).blk t).view.read (Elt F) (V (Proc.devRef .tc (arrRef spec0 w))))

/-- What the second call finds in window `w`'s staging buffer: the whole array. -/
def blk1 (V : Valuation τ sig (Elt F)) (w : Fin cfg1.W) (t : Fin cfg1.N) (d : (cfg1.win w).block.Idx → Elt F (cfg1.win w).elt) :
    (cfg1.win w).block.Idx → Elt F (cfg1.win w).elt :=
  (cfg1.win w).fill (cfg1.grid.coords t) d
    (((cfg1.win w).blk t).view.read (Elt F) (V (Proc.devRef .tc (arrRef spec1 w))))

/-- What the first body may leave in window `w`'s buffer at point `t`, having found `Y` there. -/
def left0 (V : Valuation τ sig (Elt F)) : (w : Fin cfg0.W) → (t : Fin cfg0.N) →
    (Y X : (cfg0.win w).block.Idx → Elt F (cfg0.win w).elt) → Prop
  | ⟨0, _⟩ => fun _ _ _ => True
  | ⟨1, _⟩ => fun _ _ _ => True
  | ⟨2, _⟩ => fun _ _ _ => True
  | ⟨3, _⟩ => fun _ _ _ => True
  | ⟨4, _⟩ => fun t _ X => ∃ d0 d1, X = k0_pay4 (blk0 V 0 t d0) (blk0 V 1 t d1)
  | ⟨5, _⟩ => fun t Y X => ∃ d1 d2 d3, X = acc0 (grid0.coords t) (blk0 V 1 t d1) (blk0 V 2 t d2) (blk0 V 3 t d3) Y

/-- What the second body may leave in window `w`'s buffer. -/
def left1 (V : Valuation τ sig (Elt F)) : (w : Fin cfg1.W) → (t : Fin cfg1.N) →
    (Y X : (cfg1.win w).block.Idx → Elt F (cfg1.win w).elt) → Prop
  | ⟨0, _⟩ => fun _ _ _ => True
  | ⟨1, _⟩ => fun _ _ _ => True
  | ⟨2, _⟩ => fun _ _ _ => True
  | ⟨3, _⟩ => fun t _ X => ∃ d0 d1, X = conf1 (blk1 V 0 t d0) (blk1 V 1 t d1)
  | ⟨4, _⟩ => fun t _ X => ∃ d1 d2, X = k1_pay11 (k1_pay15 (blk1 V 1 t d1)) (blk1 V 2 t d2)

/-- The first call's proof data. -/
def rdat0 (V : Valuation τ sig (Elt F)) (c : Dev nD) : RDat τ (Elt F) Unit ℕ U ℕ cfg0 c where
  A w := V (Proc.devRef .tc (arrRef spec0 w))
  after := left0 V
  Φ := fun _ => Pipeline.scopedRest spec0 c
  q := fun _ => fullShare
  owed := fun _ => 0

/-- The second call's proof data. -/
def rdat1 (V : Valuation τ sig (Elt F)) (c : Dev nD) : RDat τ (Elt F) Unit ℕ U ℕ cfg1 c where
  A w := V (Proc.devRef .tc (arrRef spec1 w))
  after := left1 V
  Φ := fun _ => Pipeline.scopedRest spec1 c
  q := fun _ => fullShare
  owed := fun _ => 0

/-- The two calls' data as one family. -/
def rdats (V : Valuation τ sig (Elt F)) : (p : Fin 2) → (c : Dev nD) → RDat τ (Elt F) Unit ℕ U ℕ (cfgs p) c
  | ⟨0, _⟩ => rdat0 V
  | ⟨1, _⟩ => rdat1 V

/-- The first body's obligation. -/
theorem body_obligation0 (V : Valuation τ sig (Elt F)) (c : Dev nD) (𝒱₀ : Variants) :
    (rdat0 (U := U) V c).BodyObligation (defs₀ (F := F)) 𝒱₀ () Set.univ := fun t Y hY => by
  obtain ⟨d0, h0⟩ := ((rdat0 (U := U) V c).finds_of_fetch (fetch0_0 t) _).mp (hY 0)
  obtain ⟨d1, h1⟩ := ((rdat0 (U := U) V c).finds_of_fetch (fetch0_1 t) _).mp (hY 1)
  obtain ⟨d2, h2⟩ := ((rdat0 (U := U) V c).finds_of_fetch (fetch0_2 t) _).mp (hY 2)
  obtain ⟨d3, h3⟩ := ((rdat0 (U := U) V c).finds_of_fetch (fetch0_3 t) _).mp (hY 3)
  rw [bigSep_W0, bigSep_W0, show (rdat0 (U := U) V c).Φ t.succ = (rdat0 (U := U) V c).Φ t.castSucc from rfl]
  iintro ⟨HΦ, HO, H0, H1, H2, H3, H4, H5⟩
  have hb := body0 (F := F) (U := U) c Set.univ 𝒱₀ t
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (Y 0) (Y 1) (Y 2) (Y 3) (Y 4) (Y 5)
  iapply hb
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [HO]; · iexact HO
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (Y 3); isplitr
    · ipureintro; trivial
    · iexact H3
  isplitl [H4]
  · iexists (k0_pay4 (Y 0) (Y 1)); isplitr
    · ipureintro; exact ⟨d0, d1, by rw [h0, h1]; rfl⟩
    · iexact H4
  · iexists (acc0 (grid0.coords t) (Y 1) (Y 2) (Y 3) (Y 5)); isplitr
    · ipureintro; exact ⟨d1, d2, d3, by rw [h1, h2, h3]; rfl⟩
    · iexact H5

/-- The scratch buffer at known contents is that buffer at some contents. -/
theorem scratch_some (c : Dev nD) (x : Vec F S64x1 .f32) :
    (owns (c.tc : Thread nD τ) (Memref.whole cc1_scratch0) fullShare x : sProp 𝕄)
      ⊢ iprop(∃ f : Buf (Elt F) ((c.tc : Thread nD τ).loc cc1_scratch0), ((c.tc : Thread nD τ).loc cc1_scratch0) ↦{fullShare} f) := by
  rw [owns_whole_eq]
  iintro ⟨%f, -, H⟩
  iexists f
  iexact H

/-- The second body's obligation; its scratch buffer is the last of the scoped buffers no window stages. -/
theorem body_obligation1 (V : Valuation τ sig (Elt F)) (c : Dev nD) (𝒱₀ : Variants) :
    (rdat1 (U := U) V c).BodyObligation (defs₀ (F := F)) 𝒱₀ () Set.univ := fun t Y hY => by
  obtain ⟨d0, h0⟩ := ((rdat1 (U := U) V c).finds_of_fetch (fetch1_0 t) _).mp (hY 0)
  obtain ⟨d1, h1⟩ := ((rdat1 (U := U) V c).finds_of_fetch (fetch1_1 t) _).mp (hY 1)
  obtain ⟨d2, h2⟩ := ((rdat1 (U := U) V c).finds_of_fetch (fetch1_2 t) _).mp (hY 2)
  rw [bigSep_W1, bigSep_W1, show (rdat1 (U := U) V c).Φ t.succ = Pipeline.scopedRest spec1 c from rfl]
  show iprop(Pipeline.scopedRest spec1 c ∗ _) ⊢ _
  rw [scopedRest1_eq]
  iintro ⟨⟨R0, R1, R2, R3, R4, R5, R6, R7, R8, R9, R10, %fs, Hs⟩, HO, H0, H1, H2, H3, H4⟩
  have hb := body1 (F := F) (U := U) c Set.univ 𝒱₀
    (win1_0.stage (cfg1.slots t 0)) (hstage1_0 0)
    (win1_1.stage (cfg1.slots t 1)) (hstage1_1 0)
    (win1_2.stage (cfg1.slots t 2)) (hstage1_2 0)
    (win1_3.stage (cfg1.slots t 3)) (hstage1_3 0)
    (win1_4.stage (cfg1.slots t 4)) (hstage1_4 0)
    (Memref.whole cc1_scratch0) (Memref.isWhole_whole _)
    (Y 0) (Y 1) (Y 2) (Y 3) (Y 4) fs
  iapply hb
  isplitl [H0 H1 H2 H3 H4 Hs]
  · isplitl [H0]; · iexact H0
    isplitl [H1]; · iexact H1
    isplitl [H2]; · iexact H2
    isplitl [H3]; · iexact H3
    isplitl [H4]; · iexact H4
    rw [owns_whole_eq]
    iexists fs; isplitr
    · ipureintro; rfl
    iexact Hs
  iintro ⟨%x5', H0, H1, H2, H3, H4, Hs⟩
  isplitl [R0 R1 R2 R3 R4 R5 R6 R7 R8 R9 R10 Hs]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iapply (scratch_some c x5')
    iexact Hs
  isplitl [HO]; · iexact HO
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (conf1 (Y 0) (Y 1)); isplitr
    · ipureintro; exact ⟨d0, d1, by rw [h0, h1]; rfl⟩
    · iexact H3
  · iexists (k1_pay11 (k1_pay15 (Y 1)) (Y 2)); isplitr
    · ipureintro; exact ⟨d1, d2, by rw [h1, h2]; rfl⟩
    · iexact H4

end Cert.KernelIdeal.Own
end
-- ==== Proof.IRegions.lean ====
/- The two kernel calls as regions of the main program, at any value instance: from the unscoped buffers at a
   valuation `V`, each call runs to the same buffers at a valuation that differs from `V` at its two results only,
   where it holds what the call's write-backs may have left. -/
module

public import proofs.«01_k».proof.Proof.IData

@[expose] public section

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
variable {U : Type} [URA U]

local notation "𝕄" => MT nD τ sig Unit (Elt F) ℕ U ℕ

/-- What is known of the buffers after the first call, entered at `V`. -/
def rel0 (V W : Valuation τ sig (Elt F)) (c : Dev nD) : Prop :=
  (∀ r : Ref sig .tc, r ≠ main_v4_0 → r ≠ main_v4_1 → W (Proc.devRef .tc r) = V (Proc.devRef .tc r))
    ∧ (rdat0 (U := U) V c).ArrAt 4 cfg0.N (W (Proc.devRef .tc main_v4_0))
    ∧ (rdat0 (U := U) V c).ArrAt 5 cfg0.N (W (Proc.devRef .tc main_v4_1))

/-- What is known of the buffers after the second call, entered at `V`. -/
def rel1 (V W : Valuation τ sig (Elt F)) (c : Dev nD) : Prop :=
  (∀ r : Ref sig .tc, r ≠ main_v6_0 → r ≠ main_v6_1 → W (Proc.devRef .tc r) = V (Proc.devRef .tc r))
    ∧ (rdat1 (U := U) V c).ArrAt 3 cfg1.N (W (Proc.devRef .tc main_v6_0))
    ∧ (rdat1 (U := U) V c).ArrAt 4 cfg1.N (W (Proc.devRef .tc main_v6_1))

/-- The core owing nothing. -/
def idle (c : Dev nD) : sProp 𝕄 := iprop(∃ W, owes (c.tc : Thread nD τ) (0 : CellTallies nD τ sig Unit) W)

/-- The unscoped buffers whole at `V`. -/
abbrev heldAll (c : Dev nD) (V : Valuation τ sig (Elt F)) : sProp 𝕄 :=
  StableHlo.held (c.tc : Thread nD τ) (Pipeline.ucRefs τ sig) V

theorem heldAll_eq (c : Dev nD) (V : Valuation τ sig (Elt F)) :
    heldAll (U := U) c V = unscopedBufs c (fun b => V (Proc.devRef .tc b)) :=
  (Pipeline.unscopedBufs_held (Ix := Unit) (Name := ℕ) (U := U) (Lvl := ℕ) c V).symm

/-- Two updates of a valuation at different buffers, away from both. -/
theorem upd2_off (V : Valuation τ sig (Elt F)) (a b : Ref sig .tc) (x : (Proc.devRef .tc a : DevRef τ sig).ty.Contents (Elt F))
    (y : (Proc.devRef .tc b : DevRef τ sig).ty.Contents (Elt F)) (r : Ref sig .tc) (ha : r ≠ a) (hb : r ≠ b) :
    Function.update (Function.update V (Proc.devRef .tc a) x) (Proc.devRef .tc b) y (Proc.devRef .tc r) = V (Proc.devRef .tc r) := by
  rw [Function.update_of_ne (StableHlo.devRef_ne_of_ne hb), Function.update_of_ne (StableHlo.devRef_ne_of_ne ha)]

theorem upd2_fst (V : Valuation τ sig (Elt F)) (a b : Ref sig .tc) (x : (Proc.devRef .tc a : DevRef τ sig).ty.Contents (Elt F))
    (y : (Proc.devRef .tc b : DevRef τ sig).ty.Contents (Elt F)) (hab : a ≠ b) :
    Function.update (Function.update V (Proc.devRef .tc a) x) (Proc.devRef .tc b) y (Proc.devRef .tc a) = x := by
  rw [Function.update_of_ne (StableHlo.devRef_ne_of_ne hab), Function.update_self]

/-- An input array of the first call is never written. -/
theorem in0_eq (V : Valuation τ sig (Elt F)) (c : Dev nD) (w : Fin cfg0.W) (hw : (cfg0.win w).isOut = false) (n : ℕ)
    (f : Buf (Elt F) ((cfg0.win w).arr.view.loc (c.tc : Thread nD τ))) (h : (rdat0 (U := U) V c).ArrAt w n f) :
    f = V (Proc.devRef .tc (arrRef spec0 w)) := by
  rw [RDat.ArrAt_in _ _ hw] at h; exact h

/-- An input array of the second call is never written. -/
theorem in1_eq (V : Valuation τ sig (Elt F)) (c : Dev nD) (w : Fin cfg1.W) (hw : (cfg1.win w).isOut = false) (n : ℕ)
    (f : Buf (Elt F) ((cfg1.win w).arr.view.loc (c.tc : Thread nD τ))) (h : (rdat1 (U := U) V c).ArrAt w n f) :
    f = V (Proc.devRef .tc (arrRef spec1 w)) := by
  rw [RDat.ArrAt_in _ _ hw] at h; exact h

/-- The buffers no window of the first call stages, at two valuations that agree away from the call's results. -/
theorem rest0_congr (c : Dev nD) (V W : Valuation τ sig (Elt F))
    (h : ∀ r : Ref sig .tc, r ≠ main_v4_0 → r ≠ main_v4_1 → W (Proc.devRef .tc r) = V (Proc.devRef .tc r)) :
    (unscopedRest spec0 c (fun b => V (Proc.devRef .tc b)) : sProp 𝕄) = unscopedRest spec0 c (fun b => W (Proc.devRef .tc b)) := by
  rw [unscopedRest0_eq, unscopedRest0_eq]
  simp only [h main_arg0 (by decide) (by decide), h main_arg1 (by decide) (by decide), h main_arg2 (by decide) (by decide),
    h main_arg3 (by decide) (by decide), h main_v5 (by decide) (by decide), h main_v6_0 (by decide) (by decide),
    h main_v6_1 (by decide) (by decide), h main_v7 (by decide) (by decide), h main_v8 (by decide) (by decide)]

/-- The same for the second call. -/
theorem rest1_congr (c : Dev nD) (V W : Valuation τ sig (Elt F))
    (h : ∀ r : Ref sig .tc, r ≠ main_v6_0 → r ≠ main_v6_1 → W (Proc.devRef .tc r) = V (Proc.devRef .tc r)) :
    (unscopedRest spec1 c (fun b => V (Proc.devRef .tc b)) : sProp 𝕄) = unscopedRest spec1 c (fun b => W (Proc.devRef .tc b)) := by
  rw [unscopedRest1_eq, unscopedRest1_eq]
  simp only [h main_arg0 (by decide) (by decide), h main_arg1 (by decide) (by decide), h main_arg3 (by decide) (by decide),
    h main_v0 (by decide) (by decide), h main_v1 (by decide) (by decide), h main_v2 (by decide) (by decide),
    h main_v3 (by decide) (by decide), h main_v4_0 (by decide) (by decide), h main_v7 (by decide) (by decide),
    h main_v8 (by decide) (by decide)]

theorem share0 (V : Valuation τ sig (Elt F)) (c : Dev nD) (w : Fin cfg0.W) : (rdats (U := U) V 0 c).share w = fullShare := by
  unfold RDat.share; split <;> rfl

theorem phi0 (V : Valuation τ sig (Elt F)) (c : Dev nD) (t : Fin (cfg0.N + 1)) :
    (rdats (U := U) V 0 c).Φ t = Pipeline.scopedRest spec0 c := rfl

set_option backward.isDefEq.respectTransparency.types false in
/-- At the first call's end: its arrays as the write-backs left them, and the rest, are the unscoped buffers at a related valuation. -/
theorem exit0 (V : Valuation τ sig (Elt F)) (c : Dev nD) :
    iprop((rdats (U := U) V 0 c).arraysAt cfg0.N ∗ unscopedRest spec0 c (fun b => V (Proc.devRef .tc b)))
      ⊢ (iprop(∃ W, ⌜rel0 (U := U) V W c⌝ ∗ heldAll c W) : sProp 𝕄) := by
  have ha := Pipeline.RDat.arraysAt_eq (Ix := Unit) (Name := ℕ) (U := U) (Lvl := ℕ) (p := (0 : Fin 2)) (pcfgs (F := F)) adm (rdats V) c arr_whole0
      (share0 V c) cfg0.N
  rw [ha, bigSep_W0]
  iintro ⟨⟨⟨%f0, %h0, H0⟩, ⟨%f1, %h1, H1⟩, ⟨%f2, %h2, H2⟩, ⟨%f3, %h3, H3⟩, ⟨%f4, %h4, H4⟩, ⟨%f5, %h5, H5⟩⟩, Hz⟩
  have e0 : f0 = V (Proc.devRef .tc main_v0) := by
    exact in0_eq V c 0 (by decide) _ _ h0
  have e1 : f1 = V (Proc.devRef .tc main_v1) := by
    exact in0_eq V c 1 (by decide) _ _ h1
  have e2 : f2 = V (Proc.devRef .tc main_v2) := by
    exact in0_eq V c 2 (by decide) _ _ h2
  have e3 : f3 = V (Proc.devRef .tc main_v3) := by
    exact in0_eq V c 3 (by decide) _ _ h3
  let W : Valuation τ sig (Elt F) := Function.update (Function.update V (Proc.devRef .tc main_v4_0) f4) (Proc.devRef .tc main_v4_1) f5
  have hW : ∀ r : Ref sig .tc, r ≠ main_v4_0 → r ≠ main_v4_1 → W (Proc.devRef .tc r) = V (Proc.devRef .tc r) :=
    fun r ha hb => upd2_off V _ _ _ _ r ha hb
  have hW4 : W (Proc.devRef .tc main_v4_0) = f4 := upd2_fst V _ _ _ _ (by decide)
  have hW5 : W (Proc.devRef .tc main_v4_1) = f5 := Function.update_self _ _ _
  iexists W
  isplitr
  · ipureintro
    exact ⟨hW, by rw [hW4]; exact h4, by rw [hW5]; exact h5⟩
  rw [heldAll_eq, Pipeline.unscopedBufs_split (pin (pcfgs (F := F)) adm) (0 : Fin 2) winFacts0.arr_unscoped winFacts0.arr_inj c, bigSep_W0]
  isplitr [Hz]
  · isplitl [H0]
    · have e : W (Proc.devRef .tc main_v0) = f0 := (hW main_v0 (by decide) (by decide)).trans e0.symm
      rw [← e]; iexact H0
    isplitl [H1]
    · have e : W (Proc.devRef .tc main_v1) = f1 := (hW main_v1 (by decide) (by decide)).trans e1.symm
      rw [← e]; iexact H1
    isplitl [H2]
    · have e : W (Proc.devRef .tc main_v2) = f2 := (hW main_v2 (by decide) (by decide)).trans e2.symm
      rw [← e]; iexact H2
    isplitl [H3]
    · have e : W (Proc.devRef .tc main_v3) = f3 := (hW main_v3 (by decide) (by decide)).trans e3.symm
      rw [← e]; iexact H3
    isplitl [H4]
    · rw [← hW4]; iexact H4
    · rw [← hW5]; iexact H5
  · iapply (Entails.of_eq (rest0_congr c _ _ fun r ha hb => hW r ha hb))
    iexact Hz

set_option backward.isDefEq.respectTransparency.types false in
/-- The first call's region. -/
def reg0 (V : Valuation τ sig (Elt F)) (𝒱₀ : Variants) (L : GSem nD τ sig → Finset Unit) (lv : GSem nD τ sig → Unit → ℕ) :
    Pipeline.RDat.RegionSeg (U := U) (pcfgs (F := F)) adm (rdats V) () (defs₀ (F := F)) 𝒱₀ L lv 0 where
  win := winFacts0.to₀
  block_pos := block_pos0
  stage_whole := stage_whole0
  K := PEmpty
  osem := PEmpty.elim
  ho := OwnSemFacts.none _
  hbody := fun c => body_obligation0 V c 𝒱₀
  hwaits := Pipeline.RDat.hwaits_of_owed_zero _ _ _ _ L lv 0 fun _ _ => rfl
  pre := fun c => iprop(heldAll c V ∗ idle c)
  post := fun c => iprop(∃ W, ⌜rel0 (U := U) V W c⌝ ∗ heldAll c W ∗ idle c)
  X := fun _ => iprop(emp)
  Y := fun _ => iprop(emp)
  Z := fun c => unscopedRest spec0 c (fun b => V (Proc.devRef .tc b))
  hentry := fun c => by
    have hs := Pipeline.RDat.arrays_of_unscopedBufs (Ix := Unit) (Name := ℕ) (U := U) (Lvl := ℕ) (p := (0 : Fin 2)) (pcfgs (F := F)) adm (rdats V) winFacts0 arr_whole0 c
      (share0 V c) (fun b => V (Proc.devRef .tc b)) (fun _ => rfl)
    rw [heldAll_eq]
    iintro ⟨⟨Hh, HO⟩, -, -⟩
    ihave H := hs $$ Hh
    icases H with ⟨Ha, Hz⟩
    imodintro
    isplitl [Ha]; · iexact Ha
    isplitr
    · unfold Pipeline.prefHeld
      rw [show (Finset.univ : Finset (Fin 0)) = ∅ from rfl, BI.bigSep_empty]
      iempintro
    isplitl [HO]
    · unfold idle RDat.owesAt Pipeline.owesWithin
      icases HO with ⟨%W, HO⟩
      iexists W
      isplitr
      · ipureintro; exact fun _ _ => Or.inl trivial
      iexact HO
    isplitr
    · iempintro
    iexact Hz
  hin := fun c => by
    refine BIBase.Entails.trans ?_ (Entails.of_eq (phi0 V c _).symm)
    iintro ⟨-, -, H⟩
    iexact H
  hout := fun c => by
    refine BIBase.Entails.trans (Entails.of_eq (phi0 V c _)) ?_
    rw [ownSems0_none]
    iintro H
    isplitr; · iempintro
    isplitr; · iempintro
    iexact H
  hexit := fun c => by
    refine BIBase.Entails.trans ?_ ((sep_mono (exit0 V c) .rfl).trans ?_) (Q := iprop(((rdats (U := U) V 0 c).arraysAt cfg0.N ∗ unscopedRest spec0 c (fun b => V (Proc.devRef .tc b))) ∗ (rdats (U := U) V 0 c).owesAt () (Fin.last cfg0.N)))
    · iintro ⟨Ha, HO, -, Hz⟩
      isplitr [HO]
      · isplitl [Ha]; · iexact Ha
        iexact Hz
      iexact HO
    · iintro ⟨⟨%W, %hW, Hh⟩, HO⟩
      imodintro
      iexists W
      isplitr; · ipureintro; exact hW
      isplitl [Hh]; · iexact Hh
      unfold idle RDat.owesAt Pipeline.owesWithin
      icases HO with ⟨%W', -, HO⟩
      iexists W'
      iexact HO

theorem share1 (V : Valuation τ sig (Elt F)) (c : Dev nD) (w : Fin cfg1.W) : (rdats (U := U) V 1 c).share w = fullShare := by
  unfold RDat.share; split <;> rfl

theorem phi1 (V : Valuation τ sig (Elt F)) (c : Dev nD) (t : Fin (cfg1.N + 1)) :
    (rdats (U := U) V 1 c).Φ t = Pipeline.scopedRest spec1 c := rfl

set_option backward.isDefEq.respectTransparency.types false in
/-- At the second call's end: its arrays as the write-backs left them, and the rest, are the unscoped buffers at a related valuation. -/
theorem exit1 (V : Valuation τ sig (Elt F)) (c : Dev nD) :
    iprop((rdats (U := U) V 1 c).arraysAt cfg1.N ∗ unscopedRest spec1 c (fun b => V (Proc.devRef .tc b)))
      ⊢ (iprop(∃ W, ⌜rel1 (U := U) V W c⌝ ∗ heldAll c W) : sProp 𝕄) := by
  have ha := Pipeline.RDat.arraysAt_eq (Ix := Unit) (Name := ℕ) (U := U) (Lvl := ℕ) (p := (1 : Fin 2)) (pcfgs (F := F)) adm (rdats V) c arr_whole1
      (share1 V c) cfg1.N
  rw [ha, bigSep_W1]
  iintro ⟨⟨⟨%f0, %h0, H0⟩, ⟨%f1, %h1, H1⟩, ⟨%f2, %h2, H2⟩, ⟨%f3, %h3, H3⟩, ⟨%f4, %h4, H4⟩⟩, Hz⟩
  have e0 : f0 = V (Proc.devRef .tc main_v5) := by
    exact in1_eq V c 0 (by decide) _ _ h0
  have e1 : f1 = V (Proc.devRef .tc main_arg2) := by
    exact in1_eq V c 1 (by decide) _ _ h1
  have e2 : f2 = V (Proc.devRef .tc main_v4_1) := by
    exact in1_eq V c 2 (by decide) _ _ h2
  let W : Valuation τ sig (Elt F) := Function.update (Function.update V (Proc.devRef .tc main_v6_0) f3) (Proc.devRef .tc main_v6_1) f4
  have hW : ∀ r : Ref sig .tc, r ≠ main_v6_0 → r ≠ main_v6_1 → W (Proc.devRef .tc r) = V (Proc.devRef .tc r) :=
    fun r ha hb => upd2_off V _ _ _ _ r ha hb
  have hWa : W (Proc.devRef .tc main_v6_0) = f3 := upd2_fst V _ _ _ _ (by decide)
  have hWb : W (Proc.devRef .tc main_v6_1) = f4 := Function.update_self _ _ _
  iexists W
  isplitr
  · ipureintro
    exact ⟨hW, by rw [hWa]; exact h3, by rw [hWb]; exact h4⟩
  rw [heldAll_eq, Pipeline.unscopedBufs_split (pin (pcfgs (F := F)) adm) (1 : Fin 2) winFacts1.arr_unscoped winFacts1.arr_inj c, bigSep_W1]
  isplitr [Hz]
  · isplitl [H0]
    · have e : W (Proc.devRef .tc main_v5) = f0 := (hW main_v5 (by decide) (by decide)).trans e0.symm
      rw [← e]; iexact H0
    isplitl [H1]
    · have e : W (Proc.devRef .tc main_arg2) = f1 := (hW main_arg2 (by decide) (by decide)).trans e1.symm
      rw [← e]; iexact H1
    isplitl [H2]
    · have e : W (Proc.devRef .tc main_v4_1) = f2 := (hW main_v4_1 (by decide) (by decide)).trans e2.symm
      rw [← e]; iexact H2
    isplitl [H3]
    · rw [← hWa]; iexact H3
    · rw [← hWb]; iexact H4
  · iapply (Entails.of_eq (rest1_congr c _ _ fun r ha hb => hW r ha hb))
    iexact Hz

set_option backward.isDefEq.respectTransparency.types false in
/-- The second call's region. -/
def reg1 (V : Valuation τ sig (Elt F)) (𝒱₀ : Variants) (L : GSem nD τ sig → Finset Unit) (lv : GSem nD τ sig → Unit → ℕ) :
    Pipeline.RDat.RegionSeg (U := U) (pcfgs (F := F)) adm (rdats V) () (defs₀ (F := F)) 𝒱₀ L lv 1 where
  win := winFacts1.to₀
  block_pos := block_pos1
  stage_whole := stage_whole1
  K := PEmpty
  osem := PEmpty.elim
  ho := OwnSemFacts.none _
  hbody := fun c => body_obligation1 V c 𝒱₀
  hwaits := Pipeline.RDat.hwaits_of_owed_zero _ _ _ _ L lv 1 fun _ _ => rfl
  pre := fun c => iprop(heldAll c V ∗ idle c)
  post := fun c => iprop(∃ W, ⌜rel1 (U := U) V W c⌝ ∗ heldAll c W ∗ idle c)
  X := fun _ => iprop(emp)
  Y := fun _ => iprop(emp)
  Z := fun c => unscopedRest spec1 c (fun b => V (Proc.devRef .tc b))
  hentry := fun c => by
    have hs := Pipeline.RDat.arrays_of_unscopedBufs (Ix := Unit) (Name := ℕ) (U := U) (Lvl := ℕ) (p := (1 : Fin 2)) (pcfgs (F := F)) adm (rdats V) winFacts1 arr_whole1 c
      (share1 V c) (fun b => V (Proc.devRef .tc b)) (fun _ => rfl)
    rw [heldAll_eq]
    iintro ⟨⟨Hh, HO⟩, -, -⟩
    ihave H := hs $$ Hh
    icases H with ⟨Ha, Hz⟩
    imodintro
    isplitl [Ha]; · iexact Ha
    isplitr
    · unfold Pipeline.prefHeld
      rw [show (Finset.univ : Finset (Fin 0)) = ∅ from rfl, BI.bigSep_empty]
      iempintro
    isplitl [HO]
    · unfold idle RDat.owesAt Pipeline.owesWithin
      icases HO with ⟨%W, HO⟩
      iexists W
      isplitr
      · ipureintro; exact fun _ _ => Or.inl trivial
      iexact HO
    isplitr
    · iempintro
    iexact Hz
  hin := fun c => by
    refine BIBase.Entails.trans ?_ (Entails.of_eq (phi1 V c _).symm)
    iintro ⟨-, -, H⟩
    iexact H
  hout := fun c => by
    refine BIBase.Entails.trans (Entails.of_eq (phi1 V c _)) ?_
    rw [ownSems0_none]
    iintro H
    isplitr; · iempintro
    isplitr; · iempintro
    iexact H
  hexit := fun c => by
    refine BIBase.Entails.trans ?_ ((sep_mono (exit1 V c) .rfl).trans ?_) (Q := iprop(((rdats (U := U) V 1 c).arraysAt cfg1.N ∗ unscopedRest spec1 c (fun b => V (Proc.devRef .tc b))) ∗ (rdats (U := U) V 1 c).owesAt () (Fin.last cfg1.N)))
    · iintro ⟨Ha, HO, -, Hz⟩
      isplitr [HO]
      · isplitl [Ha]; · iexact Ha
        iexact Hz
      iexact HO
    · iintro ⟨⟨%W, %hW, Hh⟩, HO⟩
      imodintro
      iexists W
      isplitr; · ipureintro; exact hW
      isplitl [Hh]; · iexact Hh
      unfold idle RDat.owesAt Pipeline.owesWithin
      icases HO with ⟨%W', -, HO⟩
      iexists W'
      iexact HO

end Cert.KernelIdeal.Own
end
-- ==== Proof.IRun.lean ====
/- The whole main program's run, at any value instance: it terminates, every semaphore counter is zero at the end,
   and the unscoped buffers hold a valuation related to the launch memory through the two calls. -/
module

public import proofs.«01_k».proof.Proof.IRegions

@[expose] public section

noncomputable section

namespace Cert.KernelIdeal.Own

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

/-- The certificate's algebra: one component for the launch rule's own ghost state, one for the two calls'. -/
abbrev UU : Type := UR sig nD τ × UR sig nD τ

local notation "𝕄" => MT nD τ sig Unit (Elt F) ℕ UU ℕ

/-- The calls' component, embedded. -/
abbrev ER : Emb (URounds (GSem nD τ sig) Unit) 𝕄 := embR

abbrev LL : GSem nD τ sig → Finset Unit := fun _ => ∅
abbrev lvl : GSem nD τ sig → Unit → ℕ := fun _ _ => 0

/-- A call's ghost state. -/
def ghost (p : Fin 2) (c : Dev nD) : sProp 𝕄 :=
  iprop(cellsGhost (pin (pcfgs (F := F)) adm) ER p c ∗ toksInit (pin (pcfgs (F := F)) adm) ER p c)

/-- The two calls' ghost state out of the launch element of their component. -/
theorem ghosts_of_own :
    (BI.own ((ER (F := F)) (initOf (cells (pin (pcfgs (F := F)) adm) cellOf_inj) (launchToks (pin (pcfgs (F := F)) adm) cellOf_inj))) : sProp 𝕄)
      ⊢ iprop(|==> bigSep Finset.univ fun c : Dev nD => iprop(ghost 0 c ∗ ghost 1 c)) := by
  have h := fund_ghost (pin (pcfgs (F := F)) adm) (Val := Elt F) (Name := ℕ) (U := UU) (Lvl := ℕ) (Ix := Unit) (ER (F := F)) cellOf_inj
  have e2 : ∀ Φ : Fin 2 → sProp 𝕄, bigSep Finset.univ Φ = iprop(Φ 0 ∗ Φ 1) := fun Φ =>
    bigSep_univ_eq_bigSepL [(0 : Fin 2), 1] (by decide) (by decide) Φ
  iintro H
  imod h $$ H with ⟨Hg, Ht⟩
  imodintro
  simp only [e2, bigSep_sep', ghost]
  icases Hg with ⟨Hg0, Hg1⟩
  icases Ht with ⟨Ht0, Ht1⟩
  isplitl [Hg0 Ht0]
  · isplitl [Hg0]; · iexact Hg0
    iexact Ht0
  · isplitl [Hg1]; · iexact Hg1
    iexact Ht1

/-- What is known of a final valuation, from the launch memory. -/
def Reach (m : (ℓ : Loc nD τ sig) → Buf (Elt F) ℓ) (c : Dev nD) (V' : Valuation τ sig (Elt F)) : Prop :=
  ∃ W2 W4 : Valuation τ sig (Elt F), rel0 (U := UU) (V1 m c) W2 c ∧ rel1 (U := UU) (StableHlo.after hostOps1 W2) W4 c
    ∧ V' = StableHlo.after hostOps2 W4

/-- The main program as a chain. -/
abbrev mainProg : Prog (TpuEff nD τ sig (Elt F) (Pipeline.Sig Λ₀ (Fin 2) fun p => (pcfgs (F := F) p).Adm) .tc) PUnit :=
  Pipeline.chain
  [ StableHlo.seq hostOps0,
    Prog.lift (.customCall (Pipeline.entry 0) ()),
    StableHlo.seq hostOps1,
    Prog.lift (.customCall (Pipeline.entry 1) ()),
    StableHlo.seq hostOps2 ]

section
variable (𝒱₀ : Variants)

/-- A host stretch, run from the buffers at any valuation. -/
theorem wp_host (ops : List (HloOp τ sig (Elt F)))
    (hS : ∀ op ∈ ops, op.bufs ⊆ Pipeline.ucRefs τ sig) (hf : ∀ op ∈ ops, op.fresh = ∅)
    (c : Dev nD) (V : Valuation τ sig (Elt F)) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ heldAll c (StableHlo.after ops V)) -∗
          wp frame (wpE (Pipeline.defs (pcfgs (F := F)) defs₀) (Variants.lift 𝒱₀) (c.tc : Thread nD τ) none) Set.univ (k ⟨⟩) K)
        ∗ boundary (c.tc : Thread nD τ) ∗ heldAll c V)
      ⊢ wp frame (wpE (Pipeline.defs (pcfgs (F := F)) defs₀) (Variants.lift 𝒱₀) (c.tc : Thread nD τ) none) Set.univ (StableHlo.seq ops >>= k) K := by
  have hseq := StableHlo.wp_seq (defs := Pipeline.defs (pcfgs (F := F)) defs₀) (Variants.lift 𝒱₀) none Set.univ c (Pipeline.ucRefs τ sig) k (K := K) ops hS hf V
  iintro ⟨Hk, Hbd, Hh⟩
  iapply hseq $$ [Hbd Hh]
  · isplitl [Hbd] <;> iassumption
  iintro ⟨Hbd, Hh⟩
  iapply Hk
  isplitl [Hbd]; · iexact Hbd
  iexact Hh

set_option backward.isDefEq.respectTransparency.types false in
/-- The first call, run from the buffers at any valuation. -/
theorem wp_call0 (c : Dev nD) (V : Valuation τ sig (Elt F)) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ ∃ W, ⌜rel0 (U := UU) V W c⌝ ∗ heldAll c W ∗ idle c) -∗
          wp frame (wpE (Pipeline.defs (pcfgs (F := F)) defs₀) (Variants.lift 𝒱₀) (c.tc : Thread nD τ) none) Set.univ (k ⟨⟩) K)
        ∗ boundary (c.tc : Thread nD τ) ∗ iprop(heldAll c V ∗ idle c) ∗ levAts LL lvl ∗ cellsGhost (pin (pcfgs (F := F)) adm) ER 0 c
        ∗ toksInit (pin (pcfgs (F := F)) adm) ER 0 c)
      ⊢ wp frame (wpE (Pipeline.defs (pcfgs (F := F)) defs₀) (Variants.lift 𝒱₀) (c.tc : Thread nD τ) none) Set.univ
          (Prog.lift (.customCall (Pipeline.entry 0) ()) >>= k) K :=
  Pipeline.RDat.RegionSeg.wp (pcfgs (F := F)) adm (rdats V) () cellOf_inj (ER (F := F)) defs₀ 𝒱₀ LL lvl (reg0 V 𝒱₀ LL lvl) c none (fun u h => nomatch h) k K

set_option backward.isDefEq.respectTransparency.types false in
/-- The second call, run from the buffers at any valuation. -/
theorem wp_call1 (c : Dev nD) (V : Valuation τ sig (Elt F)) {β : Type}
    (k : PUnit → Prog (TpuEff nD τ sig (Elt F) (Pipeline.Sig Λ₀ (Fin 2) fun p => (pcfgs (F := F) p).Adm) .tc) β) (K : β → sProp 𝕄) :
    iprop((iprop(boundary (c.tc : Thread nD τ) ∗ ∃ W, ⌜rel1 (U := UU) V W c⌝ ∗ heldAll c W ∗ idle c) -∗
          wp frame (wpE (Pipeline.defs (pcfgs (F := F)) defs₀) (Variants.lift 𝒱₀) (c.tc : Thread nD τ) none) Set.univ (k ⟨⟩) K)
        ∗ boundary (c.tc : Thread nD τ) ∗ iprop(heldAll c V ∗ idle c) ∗ levAts LL lvl ∗ cellsGhost (pin (pcfgs (F := F)) adm) ER 1 c
        ∗ toksInit (pin (pcfgs (F := F)) adm) ER 1 c)
      ⊢ wp frame (wpE (Pipeline.defs (pcfgs (F := F)) defs₀) (Variants.lift 𝒱₀) (c.tc : Thread nD τ) none) Set.univ
          (Prog.lift (.customCall (Pipeline.entry 1) ()) >>= k) K :=
  Pipeline.RDat.RegionSeg.wp (pcfgs (F := F)) adm (rdats V) () cellOf_inj (ER (F := F)) defs₀ 𝒱₀ LL lvl (reg1 V 𝒱₀ LL lvl) c none (fun u h => nomatch h) k K

set_option backward.isDefEq.respectTransparency.types false in
/-- The main program as one host segment. -/
def mainSeg (m : (ℓ : Loc nD τ sig) → Buf (Elt F) ℓ) :
    Pipeline.HostSeg (Ix := Unit) (Name := ℕ) (U := UU) (Lvl := ℕ) (pcfgs (F := F)) defs₀ 𝒱₀ LL lvl where
  prog := mainProg
  pre := fun c => iprop(heldAll c (V0 m c) ∗ idle c ∗ ghost 0 c ∗ ghost 1 c)
  post := fun c => iprop(∃ V', ⌜Reach m c V'⌝ ∗ heldAll c V' ∗ idle c)
  run := fun c {β} k K => by
    simp only [Pipeline.chain_cons, Pipeline.chain_nil, bind_assoc, pure_bind]
    iintro ⟨Hk, Hbd, ⟨Hh, HO, Hg0, Hg1⟩, #Hl⟩
    iapply (wp_host 𝒱₀ hostOps0 (fun op h => Pipeline.sub_ucRefs op ((List.forall_iff_forall_mem.mp hostOps0_sub) op h))
      (fun op h => (List.forall_iff_forall_mem.mp hostOps0_fresh) op h) c (V0 m c))
    isplitr [Hbd Hh]
    swap
    · isplitl [Hbd] <;> iassumption
    iintro ⟨Hbd, Hh⟩
    iapply (wp_call0 𝒱₀ c (V1 m c))
    isplitr [Hbd Hh HO Hg0]
    swap
    · unfold ghost
      icases Hg0 with ⟨Hga, Hgb⟩
      isplitl [Hbd]; · iexact Hbd
      isplitl [Hh HO]
      · isplitl [Hh]; · iexact Hh
        iexact HO
      isplitr; · iexact Hl
      isplitl [Hga]; · iexact Hga
      iexact Hgb
    iintro ⟨Hbd, %W2, %h2, Hh, HO⟩
    iapply (wp_host 𝒱₀ hostOps1 (fun op h => Pipeline.sub_ucRefs op ((List.forall_iff_forall_mem.mp hostOps1_sub) op h))
      (fun op h => (List.forall_iff_forall_mem.mp hostOps1_fresh) op h) c W2)
    isplitr [Hbd Hh]
    swap
    · isplitl [Hbd] <;> iassumption
    iintro ⟨Hbd, Hh⟩
    iapply (wp_call1 𝒱₀ c (StableHlo.after hostOps1 W2))
    isplitr [Hbd Hh HO Hg1]
    swap
    · unfold ghost
      icases Hg1 with ⟨Hga, Hgb⟩
      isplitl [Hbd]; · iexact Hbd
      isplitl [Hh HO]
      · isplitl [Hh]; · iexact Hh
        iexact HO
      isplitr; · iexact Hl
      isplitl [Hga]; · iexact Hga
      iexact Hgb
    iintro ⟨Hbd, %W4, %h4, Hh, HO⟩
    iapply (wp_host 𝒱₀ hostOps2 (fun op h => Pipeline.sub_ucRefs op ((List.forall_iff_forall_mem.mp hostOps2_sub) op h))
      (fun op h => (List.forall_iff_forall_mem.mp hostOps2_fresh) op h) c W4)
    isplitr [Hbd Hh]
    swap
    · isplitl [Hbd] <;> iassumption
    iintro ⟨Hbd, Hh⟩
    iapply Hk
    isplitl [Hbd]; · iexact Hbd
    iexists (StableHlo.after hostOps2 W4)
    isplitr
    · ipureintro; exact ⟨W2, W4, h2, h4, rfl⟩
    isplitl [Hh]; · iexact Hh
    iexact HO

end

set_option backward.isDefEq.respectTransparency.types false in
/-- The main program, from any memory with zero counters: it terminates, and at the end every counter is zero and the
    unscoped buffers hold a valuation reached from the launch memory. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, ∃ V', Reach m c V' ∧ ∀ b ∈ Pipeline.ucRefs τ sig, r.2.mem (c, b) = V' b) ∧ r.2.sem = fun _ => 0) := by
  refine Pipeline.RDat.θ_run_regions_kit_dev_sems (pcfgs (F := F)) adm (rdats (U := UU) (fun b => m ((0 : Dev nD), b))) () cellOf_inj (embL) defs₀ Variants.none LL lvl m ρ main
    (fun _ => [.host (mainSeg Variants.none m)])
    (fun c Q => by
      rewrite [main_chain c, Pipeline.RDat.Seg.run_eq_chain,
        show [Pipeline.RDat.Seg.host (mainSeg Variants.none m)].map Pipeline.RDat.Seg.prog = [mainProg (F := F)] from rfl, Pipeline.chain_cons,
        show (Pipeline.chain [] : Prog (TpuEff nD τ sig (Elt F) (Pipeline.Sig Λ₀ (Fin 2) fun p => (pcfgs (F := F) p).Adm) .tc) PUnit) = pure ⟨⟩ from rfl,
        show (fun _ : PUnit => (pure ⟨⟩ : Prog (TpuEff nD τ sig (Elt F) (Pipeline.Sig Λ₀ (Fin 2) fun p => (pcfgs (F := F) p).Adm) .tc) PUnit)) = Pure.pure from rfl, bind_pure]
      exact .rfl)
    (fun c => by simp [Pipeline.RDat.Seg.pipes, Pipeline.RDat.Seg.pipe?]) (fun _ => 0) (fun _ _ => rfl)
    (fun c => iprop(ghost 0 c ∗ ghost 1 c))
    (initOf (cells (pin (pcfgs (F := F)) adm) cellOf_inj) (launchToks (pin (pcfgs (F := F)) adm) cellOf_inj),
      initOf (cells (pin (pcfgs (F := F)) adm) cellOf_inj) (launchToks (pin (pcfgs (F := F)) adm) cellOf_inj))
    ?_
    (T₀ := fun c => iprop(heldAll c (V0 m c) ∗ idle c ∗ ghost 0 c ∗ ghost 1 c))
    (Tₙ := fun c => iprop(∃ V', ⌜Reach m c V'⌝ ∗ heldAll c V'))
    (hch := fun c => ⟨.rfl, ?_⟩)
    (hinit := ?_) (QY := fun c s => ∃ V', Reach m c V' ∧ ∀ b ∈ Pipeline.ucRefs τ sig, s.mem (c, b) = V' b)
    (hfin := fun c s' => ?_) (hQ := fun _ h hz => ⟨h, funext fun g => hz g (.inr (regions_no_unscoped g.2))⟩)
  · iintro Hu
    ihave H := (ownU_pair _ _) $$ Hu
    icases H with ⟨HP, HR⟩
    imod ghosts_of_own $$ HR with HG
    imodintro
    isplitl [HP]; · iexact HP
    iexact HG
  · show iprop(∃ V', ⌜Reach m c V'⌝ ∗ heldAll c V' ∗ idle c) ⊢ _
    iintro ⟨%V', %h, Hh, HO⟩
    isplitl [Hh]
    · iexists V'
      isplitr; · ipureintro; exact h
      iexact Hh
    · unfold idle
      iexact HO
  · refine Pipeline.initEach LL lvl fun c => ?_
    rw [heldAll_eq]
    iintro ⟨⟨Hb, -, HO, -, -, Hg⟩, -⟩
    imodintro
    isplitl [Hb]; · iexact Hb
    isplitl [HO]
    · unfold idle
      iexists ∅
      iexact HO
    iexact Hg
  · unfold heldAll StableHlo.held
    iintro ⟨⟨%V', %hV, Hh⟩, HSI⟩
    ihave Hr := (pointsTo_read_all (Pipeline.ucRefs τ sig) (fun b => ((c : Thread nD τ).1, b)) V' s') $$ [Hh HSI]
    · isplitl [Hh] <;> iassumption
    icases Hr with ⟨%h, HSI⟩
    imodintro
    isplitr
    · ipureintro
      exact ⟨V', hV, h⟩
    · iexact HSI

end Cert.KernelIdeal.Own
end
-- ==== Proof.IFrame.lean ====
/- The program's frame: every argument ends as launched, every counter at zero. -/
module

public import proofs.«01_k».proof.Proof.IRun

@[expose] public section

noncomputable section

namespace Cert.KernelIdeal.Own

open Cert.KernelIdeal Cert.KernelIdeal.Gen

open Idealize.ShloMosaic Idealize.ShloMosaic.TcCoe
open Idealize.SL.Sem

variable {F : FTy → Type} [FloatOps F]

/-- A buffer no operation and no call writes ends as launched. -/
theorem reach_kept (m : (ℓ : Loc nD τ sig) → Buf (Elt F) ℓ) (c : Dev nD) (V' : Valuation τ sig (Elt F)) (h : Reach m c V')
    (r : Ref sig .tc) (h0 : r ∉ hostOps0_W) (h1 : r ∉ hostOps1_W) (h2 : r ∉ hostOps2_W)
    (ha : r ≠ main_v4_0) (hb : r ≠ main_v4_1) (hc : r ≠ main_v6_0) (hd : r ≠ main_v6_1) :
    V' (Proc.devRef .tc r) = m ((c.tc : Thread nD τ).loc r) := by
  obtain ⟨W2, W4, hr0, hr1, rfl⟩ := h
  have e2 : StableHlo.after hostOps2 W4 (Proc.devRef .tc r) = W4 (Proc.devRef .tc r) := StableHlo.after_of_writes_sub hostOps2 _ hostOps2_writes h2
  have e1 : StableHlo.after hostOps1 W2 (Proc.devRef .tc r) = W2 (Proc.devRef .tc r) := StableHlo.after_of_writes_sub hostOps1 _ hostOps1_writes h1
  rw [e2, hr1.1 r hc hd, e1, hr0.1 r ha hb]
  exact V1_of m c r h0

/-- The frame, at any value instance. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run m ρ)
  obtain ⟨V', hV, hb⟩ := h.1 c
  have g : ∀ x : Ref sig .tc, (Proc.devRef .tc x : DevRef τ sig) ∈ Pipeline.ucRefs τ sig →
      r.2.mem ((c.tc : Thread nD τ).loc x) = V' (Proc.devRef .tc x) := fun x hx => hb _ hx
  exact ⟨(g main_arg0 (Finset.mem_filter.mpr ⟨StableHlo.devRef_mem_tcRefs main_arg0, by decide⟩)).trans
        (reach_kept m c V' hV main_arg0 (by decide) (by decide) (by decide) (by decide) (by decide) (by decide) (by decide)),
      (g main_arg1 (Finset.mem_filter.mpr ⟨StableHlo.devRef_mem_tcRefs main_arg1, by decide⟩)).trans
        (reach_kept m c V' hV main_arg1 (by decide) (by decide) (by decide) (by decide) (by decide) (by decide) (by decide)),
      (g main_arg2 (Finset.mem_filter.mpr ⟨StableHlo.devRef_mem_tcRefs main_arg2, by decide⟩)).trans
        (reach_kept m c V' hV main_arg2 (by decide) (by decide) (by decide) (by decide) (by decide) (by decide) (by decide)),
      (g main_arg3 (Finset.mem_filter.mpr ⟨StableHlo.devRef_mem_tcRefs main_arg3, by decide⟩)).trans
        (reach_kept m c V' hV main_arg3 (by decide) (by decide) (by decide) (by decide) (by decide) (by decide) (by decide))⟩

end Cert.KernelIdeal.Own
end
-- ==== Proof.RFrame.lean ====
/- The reference's frame: its operations' run, and no semaphore declared. -/
module

public import proofs.«01_k».proof.Proof.Gen.ReferenceIdeal.Run
public import Idealize.ShloMosaic.Lib.Quiescent

@[expose] public section

noncomputable section

namespace Cert.ReferenceIdeal.Own

open Cert.ReferenceIdeal

open Idealize.ShloMosaic Idealize.ShloMosaic.TcCoe
open Idealize.SL.Sem

variable {F : FTy → Type} [FloatOps F]

/-- The frame, at any value instance. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by rfl) r.2⟩) (Value.run m ρ)

end Cert.ReferenceIdeal.Own
end
-- ==== Proof.Loss.lean ====
/- The cross entropy of one anchor over the reals, and the extended-real spellings of it that the programs print. -/
module

public import Idealize.ShloMosaic.Lib.Pointwise

@[expose] public section

noncomputable section

namespace Cert.Loss

open Idealize.ShloMosaic

/-- A sum of reals is the same sum among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The largest of finitely many reals, folded from `⊥`, is real. -/
theorem fold_max_real {ι : Type} (s : Finset ι) (hs : s.Nonempty) (f : ι → ℝ) :
    ∃ M : ℝ, s.fold max (⊥ : EReal) (fun k => (f k : EReal)) = (M : EReal) := by
  classical
  induction hs using Finset.Nonempty.cons_induction with
  | singleton a => exact ⟨f a, by rw [Finset.fold_singleton]; exact max_eq_left bot_le⟩
  | cons a s h hs ih =>
    obtain ⟨M, hM⟩ := ih
    refine ⟨max (f a) M, ?_⟩
    rw [Finset.fold_cons, hM]
    exact (EReal.coe_strictMono.monotone.map_max).symm

/-- The cross entropy of the class `t` under the logits `ξ`. -/
def loss {n : Nat} (ξ : Fin n → ℝ) (t : Fin n) : ℝ := Real.log (∑ c, Real.exp (ξ c)) - ξ t

theorem sum_exp_pos {n : Nat} (ξ : Fin n → ℝ) (t : Fin n) : 0 < ∑ c, Real.exp (ξ c) :=
  Finset.sum_pos (fun c _ => Real.exp_pos _) ⟨t, Finset.mem_univ t⟩

/-- The logarithm of the sum of shifted exponentials is the log-sum-exp less the shift. -/
theorem log_sum_exp {n : Nat} (ξ : Fin n → ℝ) (t : Fin n) (M : ℝ) :
    Ideal.log (∑ c, Ideal.exp ((ξ c : EReal) - (M : EReal))) = ((Real.log (∑ c, Real.exp (ξ c)) - M : ℝ) : EReal) := by
  have h : ∀ c, Ideal.exp ((ξ c : EReal) - (M : EReal)) = ((Real.exp (ξ c) / Real.exp M : ℝ) : EReal) := fun c => by
    rw [← EReal.coe_sub, Ideal.exp_coe, Real.exp_sub]
  simp only [h]
  have hp := sum_exp_pos ξ t
  rw [coe_sum, Ideal.log_coe, ← Finset.sum_div, if_neg (not_le.mpr (div_pos hp (Real.exp_pos M))),
    Real.log_div hp.ne' (Real.exp_pos M).ne', Real.log_exp]

theorem loss_nonneg {n : Nat} (ξ : Fin n → ℝ) (t : Fin n) : 0 ≤ loss ξ t := by
  unfold loss
  have : ξ t ≤ Real.log (∑ c, Real.exp (ξ c)) := by
    rw [Real.le_log_iff_exp_le (sum_exp_pos ξ t)]
    exact Finset.single_le_sum (f := fun c => Real.exp (ξ c)) (fun c _ => (Real.exp_pos _).le) (Finset.mem_univ t)
  linarith

/-- Bounded logits have a bounded cross entropy. -/
theorem loss_le {n : Nat} (ξ : Fin n → ℝ) (t : Fin n) (B : ℝ) (hB : ∀ c, |ξ c| ≤ B) : loss ξ t ≤ n + 2 * B := by
  have hn : 0 < (n : ℝ) := by exact_mod_cast Fin.pos t
  have hs : ∑ c, Real.exp (ξ c) ≤ n * Real.exp B := by
    refine (Finset.sum_le_card_nsmul _ _ (Real.exp B) fun c _ => Real.exp_le_exp.mpr (le_of_abs_le (hB c))).trans ?_
    simp
  have hl : Real.log (∑ c, Real.exp (ξ c)) ≤ n + B := by
    refine (Real.log_le_log (sum_exp_pos ξ t) hs).trans ?_
    rw [Real.log_mul hn.ne' (Real.exp_pos B).ne', Real.log_exp]
    have := Real.log_le_self hn.le
    linarith
  have := neg_le_of_abs_le (hB t)
  unfold loss
  linarith

end Cert.Loss
end
-- ==== Proof.Words.lean ====
/- The programs' integer and indicator arithmetic at small numbers: classes, counts and the midpoint of the search. -/
module

public import Idealize.ShloMosaic.Lib.Pointwise
public import Idealize.ShloMosaic.Lib.WordCmp
public import Idealize.ShloMosaic.Lib.WordArith
public import proofs.«01_k».proof.Proof.Loss

@[expose] public section

noncomputable section

namespace Cert.Words

open Idealize.ShloMosaic

/-- Whether a target names a class other than the background. -/
def isPos (t : BitVec 32) : Bool := decide (0 < t.toInt)

theorem pos_kernel (t : BitVec 32) : IntOp.cmpi .sgt (IntOp.maxsi t 0#32) 0#32 = BitVec.ofBool (isPos t) := by
  unfold IntOp.cmpi IntOp.maxsi isPos
  simp only [BitVec.slt_eq_decide, BitVec.sle_eq_decide, BitVec.toInt_zero]
  congr 1
  split_ifs with h <;> simp at h ⊢ <;> omega

theorem pos_reference (t : BitVec 32) :
    IntOp.cmpi .sgt (Scalar.select (IntOp.cmpi .slt t 0#32) 0#32 t) 0#32 = BitVec.ofBool (isPos t) := by
  unfold IntOp.cmpi Scalar.select isPos
  simp only [BitVec.slt_eq_decide, BitVec.toInt_zero]
  congr 1
  by_cases h : t.toInt < 0 <;> simp [h]
  omega

/-- The indicator of a bit, as a float. -/
theorem indicator (q : Bool) :
    (FloatOps.sitofp (F := Ideal) .f32 (BitVec.setWidth 32 (BitVec.ofBool q)) : EReal) = if q then 1 else 0 := by
  show (((BitVec.setWidth 32 (BitVec.ofBool q)).toInt : ℝ) : EReal) = _
  cases q
  · simp
  · have : (BitVec.setWidth 32 (BitVec.ofBool true)).toInt = 1 := by decide
    rw [this]
    simp

/-- The indicator of a bit, read unsigned. -/
theorem uindicator (q : Bool) : (FloatOps.uitofp (F := Ideal) .f32 (BitVec.ofBool q) : EReal) = if q then 1 else 0 := by
  show (((BitVec.ofBool q).toNat : ℝ) : EReal) = _
  cases q <;> simp

/-- A count by indicators. -/
theorem sum_indicator {ι : Type} [Fintype ι] (q : ι → Bool) :
    ∑ i, (if q i then (1 : EReal) else 0) = (((Finset.univ.filter fun i => q i = true).card : ℝ) : EReal) := by
  have : ∀ i, (if q i then (1 : EReal) else 0) = ((if q i then (1 : ℝ) else 0 : ℝ) : EReal) := fun i => by
    split_ifs <;> simp
  simp only [this]
  rw [Loss.coe_sum]
  simp

/-- The conversion of a small natural number is its word. -/
theorem fptosi_nat (n : Nat) (h : n < 2 ^ 31) : FloatOps.fptosi (F := Ideal) (φ := .f32) 32 ((n : ℝ) : EReal) = BitVec.ofNat 32 n := by
  show BitVec.ofInt 32 (Ideal.toIntClamped _ _ ((n : ℝ) : EReal)) = _
  rw [Ideal.toIntClamped_coe, if_pos (Nat.cast_nonneg n), Int.floor_natCast]
  have : max (-((2 ^ (32 - 1) : Nat) : Int)) (min (((2 ^ (32 - 1) : Nat) : Int) - 1) (n : Int)) = (n : Int) := by
    omega
  rw [this, BitVec.ofInt_natCast]

/-- The conversion back. -/
theorem sitofp_nat (n : Nat) (h : n < 2 ^ 31) : (FloatOps.sitofp (F := Ideal) .f32 (BitVec.ofNat 32 n) : EReal) = ((n : ℝ) : EReal) := by
  show (((BitVec.ofNat 32 n).toInt : ℝ) : EReal) = _
  rw [WordCmp.toInt_ofNat_of_lt (w := 32) h]
  simp

/-- A word sum of indicators is the word of the count. -/
theorem fold_addi {ι : Type} [DecidableEq ι] (s : Finset ι) (q : ι → Nat) :
    s.fold IntOp.addi 0#32 (fun i => BitVec.ofNat 32 (q i)) = BitVec.ofNat 32 (∑ i ∈ s, q i) := by
  induction s using Finset.induction_on with
  | empty => simp
  | insert a s h ih =>
    rw [Finset.fold_insert h, Finset.sum_insert h, ih]
    show BitVec.ofNat 32 _ + BitVec.ofNat 32 _ = _
    rw [← BitVec.ofNat_add]

theorem setWidth_ofBool (q : Bool) : BitVec.setWidth 32 (BitVec.ofBool q) = BitVec.ofNat 32 (if q then 1 else 0) := by
  cases q <;> decide

/-- The midpoint of the search interval as the kernel computes it. -/
def mid (lo hi : BitVec 32) : BitVec 32 :=
  IntOp.addi lo
    (Scalar.select
      (IntOp.andi
        (IntOp.cmpi CmpIPredicate.ne
          (IntOp.subi
            (BitVec.setWidth 32 (IntOp.cmpi CmpIPredicate.sgt (IntOp.addi (IntOp.subi hi lo) 1#32) 0#32))
            (BitVec.setWidth 32 (IntOp.cmpi CmpIPredicate.slt (IntOp.addi (IntOp.subi hi lo) 1#32) 0#32)))
          (Scalar.subi (Scalar.extui (Scalar.cmpi CmpIPredicate.sgt 2#32 0#32))
            (Scalar.extui (Scalar.cmpi CmpIPredicate.slt 2#32 0#32))))
        (IntOp.cmpi CmpIPredicate.ne
          (IntOp.remsi ArithUnit.vector (IntOp.addi (IntOp.subi hi lo) 1#32) 2#32) 0#32))
      (IntOp.subi (IntOp.divsi ArithUnit.vector (IntOp.addi (IntOp.subi hi lo) 1#32) 2#32) 1#32)
      (IntOp.divsi ArithUnit.vector (IntOp.addi (IntOp.subi hi lo) 1#32) 2#32))

theorem toNat_mid (lo hi : BitVec 32) (h : lo.toNat ≤ hi.toNat) (h' : hi.toNat ≤ 0x7F800000) :
    (mid lo hi).toNat = lo.toNat + (hi.toNat - lo.toNat + 1) / 2 := by
  have hd : (IntOp.addi (IntOp.subi hi lo) 1#32).toNat = hi.toNat - lo.toNat + 1 := by
    show (hi - lo + 1#32).toNat = _
    rw [BitVec.toNat_add, BitVec.toNat_sub_of_le h]
    simp
    omega
  unfold mid
  generalize IntOp.addi (IntOp.subi hi lo) 1#32 = d at hd ⊢
  have hsgt : IntOp.cmpi CmpIPredicate.sgt d 0#32 = 1#1 := by
    rw [WordCmp.cmpi_sgt_of_lt (by omega) (by simp)]
    simp [hd]
  have hslt : IntOp.cmpi CmpIPredicate.slt d 0#32 = 0#1 := by
    rw [WordCmp.cmpi_slt_of_lt (by omega) (by simp)]
    simp
  rw [hsgt, hslt]
  have hc : IntOp.cmpi CmpIPredicate.ne (IntOp.subi (BitVec.setWidth 32 1#1) (BitVec.setWidth 32 0#1))
      (Scalar.subi (Scalar.extui (Scalar.cmpi CmpIPredicate.sgt 2#32 0#32)) (Scalar.extui (Scalar.cmpi CmpIPredicate.slt 2#32 0#32))) = 0#1 := by
    decide
  rw [hc]
  have ha : ∀ q : BitVec 1, IntOp.andi 0#1 q = 0#1 := by decide
  rw [ha]
  have hq : (IntOp.divsi ArithUnit.vector d 2#32).toNat = (hi.toNat - lo.toNat + 1) / 2 := by
    unfold IntOp.divsi
    have hnc : ¬ IntOp.SDivCorner d 2#32 := by
      unfold IntOp.SDivCorner
      simp
    rw [if_neg hnc, BitVec.sdiv_eq]
    have hm : d.msb = false := by
      rw [BitVec.msb_eq_false_iff_two_mul_lt]
      omega
    have hm2 : (2#32).msb = false := by decide
    rw [hm, hm2]
    simp [hd]
  show (lo + _).toNat = _
  rw [BitVec.toNat_add]
  have : Scalar.select (0#1) (IntOp.subi (IntOp.divsi ArithUnit.vector d 2#32) 1#32) (IntOp.divsi ArithUnit.vector d 2#32)
      = IntOp.divsi ArithUnit.vector d 2#32 := rfl
  rw [this, hq]
  omega

end Cert.Words
end
-- ==== Proof.Second.lean ====
/- The second kernel's vectors at an index, over the extended reals: its counts are natural numbers and, the losses being real,
   its sums are real. -/
module

public import proofs.«01_k».proof.Proof.IBody1
public import proofs.«01_k».proof.Proof.Words

@[expose] public section

set_option maxRecDepth 16384

noncomputable section

namespace Cert.Second

open Cert.KernelIdeal Cert.KernelIdeal.Gen Cert.KernelIdeal.Own
open Idealize.ShloMosaic Idealize.ShloMosaic.TcCoe

variable (x : Vec Ideal S64x8732 .f32) (tg : Vec Ideal S64x8732 .i32)

/-- Whether an anchor is positive. -/
def P (b : Fin 64) (j : Fin 8732) : Bool := Words.isPos (tg (ix2 b j))

/-- The positive anchors of a row. -/
def np (b : Fin 64) : Nat := (Finset.univ.filter fun j => P tg b j = true).card

theorem np_le (b : Fin 64) : np tg b ≤ 8732 := by
  have := Finset.card_le_univ (Finset.univ.filter fun j => P tg b j = true)
  simpa [np] using this

/-- How many anchors a row mines. -/
def kk (b : Fin 64) : Nat := min (3 * np tg b) 8731

theorem pay15_at (b : Fin 64) : k1_pay15 (F := Ideal) tg (ix2 b 0) = ((np tg b : ℝ) : EReal) := by
  have e : k1_pay15 (F := Ideal) tg (ix2 b 0) = ∑ j, FloatOps.sitofp FTy.f32
        (BitVec.setWidth 32 (IntOp.cmpi CmpIPredicate.sgt (IntOp.maxsi (tg (ix2 b j)) 0#32) 0#32)) := by
    pointwise [k1_pay15, k1_pay14, k1_pay13, k1_pay12]
  rw [e]
  simp only [Words.pos_kernel, Words.indicator]
  exact Words.sum_indicator _

theorem pay16_at (b : Fin 64) : k1_pay16 (F := Ideal) tg (ix2 b 0) = BitVec.ofNat 32 (np tg b) := by
  have e : k1_pay16 (F := Ideal) tg (ix2 b 0) = FloatOps.fptosi 32 (k1_pay15 (F := Ideal) tg (ix2 b 0)) := by
    unfold k1_pay16; rfl
  rw [e, pay15_at, Words.fptosi_nat _ (by have := np_le tg b; omega)]

theorem pay17_at (b : Fin 64) : k1_pay17 (F := Ideal) tg (ix2 b 0) = BitVec.ofNat 32 (kk tg b) := by
  have e : k1_pay17 (F := Ideal) tg (ix2 b 0) = IntOp.minsi (IntOp.muli (3#32) (k1_pay16 (F := Ideal) tg (ix2 b 0))) 8731#32 := by
    unfold k1_pay17; rfl
  rw [e, pay16_at]
  have := np_le tg b
  have h3 : IntOp.muli (3#32) (BitVec.ofNat 32 (np tg b)) = BitVec.ofNat 32 (3 * np tg b) := by
    show 3#32 * _ = _
    rw [BitVec.ofNat_mul]
  rw [h3]
  unfold kk
  generalize np tg b = n at this ⊢
  have hn : (BitVec.ofNat 32 (3 * n)).toNat = 3 * n := by
    rw [BitVec.toNat_ofNat]
    exact Nat.mod_eq_of_lt (by omega)
  apply BitVec.eq_of_toNat_eq
  rw [WordArith.toNat_minsi_of_lt _ _ (by rw [hn]; omega) (by decide), hn]
  show min (3 * n) 8731 = _
  rw [BitVec.toNat_ofNat, Nat.mod_eq_of_lt (by omega)]

theorem pay21_at (b : Fin 64) : k1_pay21 (F := Ideal) tg (ix2 b 0) = BitVec.ofBool (decide (8732 - np tg b ≤ kk tg b)) := by
  have e : k1_pay21 (F := Ideal) tg (ix2 b 0)
      = IntOp.cmpi .sge (k1_pay17 (F := Ideal) tg (ix2 b 0)) (IntOp.subi (8732#32) (k1_pay16 (F := Ideal) tg (ix2 b 0))) := by
    unfold k1_pay21; rfl
  have := np_le tg b
  have hs : IntOp.subi (8732#32) (BitVec.ofNat 32 (np tg b)) = BitVec.ofNat 32 (8732 - np tg b) := by
    apply BitVec.eq_of_toNat_eq
    show (8732#32 - _).toNat = _
    rw [BitVec.toNat_sub_of_le (by rw [BitVec.le_def]; simp; omega)]
    simp
    omega
  rw [e, pay16_at, pay17_at, hs, WordCmp.cmpi_sge_ofNat (by unfold kk; omega) (by omega)]

theorem pay22_at (b : Fin 64) :
    k1_pay22 (F := Ideal) tg (ix2 b 0) = BitVec.ofBool (decide (¬ (8732 - np tg b ≤ kk tg b) ∧ 0 < kk tg b)) := by
  have e : k1_pay22 (F := Ideal) tg (ix2 b 0)
      = IntOp.andi (IntOp.xori (k1_pay21 (F := Ideal) tg (ix2 b 0)) 1#1) (IntOp.cmpi .sgt (k1_pay17 (F := Ideal) tg (ix2 b 0)) 0#32) := by
    unfold k1_pay22; rfl
  rw [e, pay21_at, pay17_at, WordCmp.cmpi_sgt_ofNat (by unfold kk; omega) (by omega)]
  by_cases h1 : 8732 - np tg b ≤ kk tg b <;> by_cases h2 : 0 < kk tg b <;> simp only [h1, h2] <;> decide

/-- The entry that competes for being mined. -/
def vv (L : Fin 64 → Fin 8732 → ℝ) (b : Fin 64) (j : Fin 8732) : ℝ := if P tg b j then 0 else L b j

variable (L : Fin 64 → Fin 8732 → ℝ) (hx : ∀ b j, x (ix2 b j) = (L b j : EReal))
include hx

theorem pay19_at (b : Fin 64) (j : Fin 8732) : k1_pay19 x tg (ix2 b j) = (vv tg L b j : EReal) := by
  have e : k1_pay19 x tg (ix2 b j) = Scalar.select (IntOp.cmpi CmpIPredicate.sgt (IntOp.maxsi (tg (ix2 b j)) 0#32) 0#32) 0 (x (ix2 b j)) := by
    pointwise [k1_pay19, k1_pay13, k1_pay12]
  rw [e, Words.pos_kernel, hx]
  unfold vv P
  cases Words.isPos (tg (ix2 b j)) <;> simp [Scalar.select]

theorem pay18_at (b : Fin 64) : k1_pay18 x tg (ix2 b 0) = ((∑ j, (if P tg b j then L b j else 0) : ℝ) : EReal) := by
  have e : k1_pay18 x tg (ix2 b 0) = ∑ j, (x (ix2 b j) : EReal) * FloatOps.sitofp (F := Ideal) FTy.f32
          (BitVec.setWidth 32 (IntOp.cmpi CmpIPredicate.sgt (IntOp.maxsi (tg (ix2 b j)) 0#32) 0#32)) := by
    pointwise [k1_pay18, k1_pay14, k1_pay13, k1_pay12]
  rw [e, ← Loss.coe_sum]
  refine Finset.sum_congr rfl fun j _ => ?_
  rw [Words.pos_kernel, Words.indicator, hx]
  unfold P
  cases Words.isPos (tg (ix2 b j)) <;> simp

theorem pay20_at (b : Fin 64) : k1_pay20 x tg (ix2 b 0) = ((∑ j, vv tg L b j : ℝ) : EReal) := by
  have e : k1_pay20 x tg (ix2 b 0) = ∑ j, k1_pay19 x tg (ix2 b j) := by
    pointwise [k1_pay20]
  rw [e, ← Loss.coe_sum]
  exact Finset.sum_congr rfl fun j _ => pay19_at x tg L hx b j

end Cert.Second
end
-- ==== Proof.Needed.lean ====
/- The search runs whenever some row needs it. -/
module

public import proofs.«01_k».proof.Proof.IBody1
public import Idealize.ShloMosaic.Lib.Pointwise

@[expose] public section

set_option maxRecDepth 16384

noncomputable section

namespace Cert.Second

open Cert.KernelIdeal Cert.KernelIdeal.Gen Cert.KernelIdeal.Own
open Idealize.ShloMosaic Idealize.ShloMosaic.TcCoe

theorem pay1_ge (v : FVec Ideal S1x64x1 .f32) (b : Fin 64) : (v (ix3 0 b 0) : EReal) ≤ k1_pay1 v := by
  have e : k1_pay1 v = Finset.fold max (Ideal.ofBits FTy.f32 4286578688#32) (fun y : Fin 64 × Fin 1 => v (ix3 0 y.1 y.2)) Finset.univ := by
    pointwise [k1_pay1]
  rw [e]
  exact Finset.le_fold_max _ |>.mpr (.inr ⟨(b, 0), Finset.mem_univ _, le_rfl⟩)

theorem pay24_at (tg : Vec Ideal S64x8732 .i32) (b : Fin 64) :
    k1_pay24 (F := Ideal) tg (ix3 0 b 0) = Scalar.select (k1_pay22 (F := Ideal) tg (ix2 b 0)) 1 0 := by
  pointwise [k1_pay24]

theorem cmpf_ogt (a c : Ideal .f32) : Scalar.cmpf (F := Ideal) .ogt a c = BitVec.ofBool (decide ((c : EReal) < a)) := rfl

theorem select_one (a c : EReal) : Scalar.select (1#1) a c = a := rfl

theorem flag_of (a : Ideal .f32) (h : (1 : EReal) ≤ a) :
    Scalar.cmpi .ne (Scalar.extui (Scalar.cmpf (F := Ideal) .ogt a (Scalar.ofBits .f32 0x00000000#32)) : BitVec 32) 0#32 = 1#1 := by
  have h2 : ((Scalar.ofBits .f32 0x00000000#32 : Ideal .f32) : EReal) < a := by
    have h0 : ((Scalar.ofBits .f32 0x00000000#32 : Ideal .f32) : EReal) = 0 := Ideal.ofBits_zero_f32
    rw [h0]
    exact lt_of_lt_of_le zero_lt_one h
  rw [cmpf_ogt, decide_eq_true h2]
  rfl

theorem needed_of (tg : Vec Ideal S64x8732 .i32) (b : Fin 64) (h : k1_pay22 (F := Ideal) tg (ix2 b 0) = 1#1) :
    needed1 (F := Ideal) tg = 1#1 := by
  unfold needed1
  refine flag_of _ ?_
  have h1 := pay1_ge (k1_pay24 (F := Ideal) tg) b
  rw [pay24_at, h, select_one] at h1
  exact h1

end Cert.Second
end
-- ==== Proof.Halving.lean ====
/- The search for a row's cutoff: halving an interval of float patterns keeps, at its lower end, a pattern that enough entries
   reach and, beyond its upper end, one that too few do; after thirty-one halvings the two ends meet. -/
module

public import proofs.«01_k».proof.Proof.Words

@[expose] public section

noncomputable section

namespace Cert.Halving

open Idealize.ShloMosaic

/-- The interval after `i` halvings; `R p` counts the entries that reach pattern `p`, of which `k` are wanted. -/
structure Inv (R : Nat → Nat) (k i : Nat) (lo hi : BitVec 32) : Prop where
  le : lo.toNat ≤ hi.toNat
  bound : hi.toNat ≤ 0x7F800000
  enough : k ≤ R lo.toNat
  few : hi.toNat = 0x7F800000 ∨ R (hi.toNat + 1) < k
  width : hi.toNat - lo.toNat < 2 ^ (31 - i)

theorem start (R : Nat → Nat) (k : Nat) (h : k ≤ R 0) : Inv R k 0 0#32 2139095040#32 :=
  ⟨by simp, by simp, by simpa using h, .inl (by simp), by simp⟩

/-- One halving. -/
theorem step (R : Nat → Nat) (k i : Nat) (lo hi : BitVec 32) (q : BitVec 1) (hq : q = BitVec.ofBool (decide (k ≤ R (Words.mid lo hi).toNat)))
    (hi31 : i < 31) (h : Inv R k i lo hi) :
    Inv R k (i + 1) (Scalar.select q (Words.mid lo hi) lo) (Scalar.select q hi (IntOp.subi (Words.mid lo hi) 1#32)) := by
  have hm := Words.toNat_mid lo hi h.le h.bound
  obtain ⟨e, he⟩ : ∃ e, 31 - i = e + 1 := ⟨30 - i, by omega⟩
  have he' : 31 - (i + 1) = e := by omega
  have hw := h.width
  have hle := h.le
  have hb := h.bound
  rw [he, pow_succ] at hw
  by_cases hk : k ≤ R (Words.mid lo hi).toNat
  · have hq1 : q = 1#1 := by rw [hq]; simp [hk]
    subst hq1
    have e1 : Scalar.select (1#1) (Words.mid lo hi) lo = Words.mid lo hi := rfl
    have e2 : Scalar.select (1#1) hi (IntOp.subi (Words.mid lo hi) 1#32) = hi := rfl
    rw [e1, e2]
    exact ⟨by omega, hb, hk, h.few, by rw [he', hm]; omega⟩
  · have hq0 : q = 0#1 := by rw [hq]; simp [hk]
    subst hq0
    have e1 : Scalar.select (0#1) (Words.mid lo hi) lo = lo := rfl
    have e2 : Scalar.select (0#1) hi (IntOp.subi (Words.mid lo hi) 1#32) = IntOp.subi (Words.mid lo hi) 1#32 := rfl
    rw [e1, e2]
    have hne : lo.toNat < hi.toNat := by
      by_contra hn
      have : (Words.mid lo hi).toNat = lo.toNat := by omega
      rw [this] at hk
      exact hk h.enough
    have hs : (IntOp.subi (Words.mid lo hi) 1#32).toNat = (Words.mid lo hi).toNat - 1 := by
      show (Words.mid lo hi - 1#32).toNat = _
      rw [BitVec.toNat_sub_of_le (by rw [BitVec.le_def]; simp; omega)]
      simp
    refine ⟨by omega, by omega, h.enough, .inr ?_, by rw [he', hs, hm]; omega⟩
    rw [hs, Nat.sub_add_cancel (by omega)]
    exact not_le.mp hk

/-- After the last halving the interval is a single pattern. -/
theorem done (R : Nat → Nat) (k : Nat) (lo hi : BitVec 32) (h : Inv R k 31 lo hi) (hk : 0 < k) (htop : R 0x7F800000 = 0) :
    lo.toNat ≤ 0x7F7FFFFF ∧ k ≤ R lo.toNat ∧ R (lo.toNat + 1) < k := by
  have hw := h.width
  have hle := h.le
  have hb := h.bound
  have e : hi.toNat = lo.toNat := by
    have : hi.toNat - lo.toNat < 1 := by simpa using hw
    omega
  have hne : lo.toNat ≠ 0x7F800000 := fun hn => by
    have := h.enough
    rw [hn, htop] at this
    omega
  refine ⟨by omega, h.enough, ?_⟩
  rcases h.few with hf | hf
  · omega
  · rwa [e] at hf

end Cert.Halving
end
-- ==== Proof.Floats.lean ====
/- The non-negative 32-bit floats in the order of their patterns: where they start and end, and how far apart neighbours lie. -/
module

public import Idealize.ShloMosaic.Lib.Pointwise

@[expose] public section

noncomputable section

namespace Cert.Floats

open Idealize.ShloMosaic

/-- The real that the finite non-negative pattern `n` denotes. -/
def val (n : Nat) : ℝ :=
  if n / 2 ^ 23 = 0 then (n % 2 ^ 23 : Nat) * (2 : ℝ) ^ (-149 : Int)
  else (2 ^ 23 + n % 2 ^ 23 : Nat) * (2 : ℝ) ^ ((n / 2 ^ 23 : Nat) - 150 : Int)

theorem val_nonneg (n : Nat) : 0 ≤ val n := by
  unfold val
  split <;> positivity

theorem val_zero : val 0 = 0 := by
  simp [val]

/-- A finite non-negative pattern denotes `val`. -/
theorem ofBits_eq (b : BitVec 32) (h : b.toNat < 0x7F800000) : (Ideal.ofBits .f32 b : EReal) = (val b.toNat : EReal) := by
  have hs : (b.extractLsb' (8 + 23) 1 == 1#1) = false := by
    have : (b.extractLsb' (8 + 23) 1).toNat = 0 := by
      rw [BitVec.extractLsb'_toNat, Nat.shiftRight_eq_div_pow]
      omega
    rw [beq_eq_false_iff_ne]
    intro e
    rw [e] at this
    exact absurd this (by decide)
  have he : (b.extractLsb' 23 8).toNat = b.toNat / 2 ^ 23 := by
    rw [BitVec.extractLsb'_toNat, Nat.shiftRight_eq_div_pow]
    exact Nat.mod_eq_of_lt (by omega)
  have hf : (b.extractLsb' 0 23).toNat = b.toNat % 2 ^ 23 := by
    rw [BitVec.extractLsb'_toNat, Nat.shiftRight_eq_div_pow, pow_zero, Nat.div_one]
  show Ideal.ieee 8 23 b = _
  unfold Ideal.ieee
  simp only [he, hf, hs]
  rw [if_neg (by omega)]
  unfold val
  by_cases h0 : b.toNat / 2 ^ 23 = 0
  · rw [if_pos h0, if_pos h0]
    norm_num
  · rw [if_neg h0, if_neg h0]
    have e : ((b.toNat / 2 ^ 23 : Nat) : Int) - (2 ^ (8 - 1) - 1) - (23 : Nat) = ((b.toNat / 2 ^ 23 : Nat) : Int) - 150 := by
      norm_num
      ring
    rw [e]
    norm_num

/-- The pattern of the infinity. -/
theorem ofBits_top : (Ideal.ofBits .f32 (0x7F800000#32) : EReal) = ⊤ := by
  show Ideal.ieee 8 23 (0x7F800000#32) = _
  unfold Ideal.ieee
  simp

/-- Neighbouring finite patterns differ by at most one unit in the last place. -/
theorem val_succ (n : Nat) : val (n + 1) ≤ val n + 2⁻¹ ^ 23 * val n + 2⁻¹ ^ 126 := by
  by_cases h0 : n / 2 ^ 23 = 0
  · have hn : val n = (n : ℝ) * (2 : ℝ) ^ (-149 : Int) := by
      unfold val
      rw [if_pos h0, Nat.mod_eq_of_lt (by omega)]
    have hs : val (n + 1) = (n + 1 : ℝ) * (2 : ℝ) ^ (-149 : Int) := by
      unfold val
      by_cases h1 : (n + 1) / 2 ^ 23 = 0
      · rw [if_pos h1, Nat.mod_eq_of_lt (by omega)]
        push_cast
        ring
      · have e : n + 1 = 2 ^ 23 := by omega
        have e' : (n : ℝ) + 1 = 2 ^ 23 := by exact_mod_cast e
        rw [if_neg h1, e, e']
        norm_num
    have := val_nonneg n
    rw [hs]
    rw [hn] at this ⊢
    have : (2 : ℝ) ^ (-149 : Int) ≤ 2⁻¹ ^ 126 := by norm_num
    have : 0 ≤ (2⁻¹ : ℝ) ^ 23 * (n * 2 ^ (-149 : Int)) := by positivity
    linarith
  · obtain ⟨e, he⟩ : ∃ e, n / 2 ^ 23 = e + 1 := Nat.exists_eq_succ_of_ne_zero h0
    have hn : val n = (2 ^ 23 + n % 2 ^ 23 : Nat) * (2 : ℝ) ^ ((e : Int) - 149) := by
      unfold val
      rw [if_neg h0, he]
      congr 2
      push_cast
      ring
    have hs : val (n + 1) = (2 ^ 23 + n % 2 ^ 23 + 1 : Nat) * (2 : ℝ) ^ ((e : Int) - 149) := by
      unfold val
      by_cases h1 : (n + 1) / 2 ^ 23 = e + 1
      · rw [if_neg (by omega), h1, show (n + 1) % 2 ^ 23 = n % 2 ^ 23 + 1 by omega]
        congr 2
        push_cast
        ring
      · have h2 : (n + 1) / 2 ^ 23 = e + 2 := by omega
        have h3 : (n + 1) % 2 ^ 23 = 0 := by omega
        have h4 : 2 ^ 23 + n % 2 ^ 23 + 1 = 2 ^ 24 := by omega
        rw [if_neg (by omega), h2, h3, h4]
        rw [show ((e + 2 : Nat) : Int) - 150 = ((e : Int) - 149) + 1 by push_cast; ring, zpow_add₀ two_ne_zero]
        push_cast
        ring
    have hu : (0 : ℝ) ≤ (2 : ℝ) ^ ((e : Int) - 149) := by positivity
    have hd : val (n + 1) = val n + (2 : ℝ) ^ ((e : Int) - 149) := by
      rw [hs, hn]
      push_cast
      ring
    have hb : (2 : ℝ) ^ ((e : Int) - 149) ≤ 2⁻¹ ^ 23 * val n := by
      rw [hn, ← mul_assoc]
      refine le_mul_of_one_le_left hu ?_
      rw [inv_pow, inv_mul_eq_div, le_div_iff₀ (by positivity)]
      push_cast
      have : (0 : ℝ) ≤ (n % 2 ^ 23 : Nat) := Nat.cast_nonneg _
      push_cast at this
      linarith
    have : (0 : ℝ) ≤ 2⁻¹ ^ 126 := by positivity
    linarith

/-- The largest finite pattern. -/
theorem val_last : (2 : ℝ) ^ 127 ≤ val 0x7F7FFFFF := by
  unfold val
  norm_num

end Cert.Floats
end
-- ==== Proof.Cutoff.lean ====
/- Summing the `k` largest of finitely many non-negative reals by a cutoff: when the cutoff separates the chosen places from
   the others, the entries above it and the cutoff itself for the rest make the same sum; and a cutoff found among the floats
   separates whenever the smallest chosen entry clears the largest other one by a unit in the last place. -/
module

public import proofs.«01_k».proof.Proof.Floats

@[expose] public section

noncomputable section

namespace Cert.Cutoff

variable {ι : Type} [Fintype ι] [DecidableEq ι]

/-- The chosen places' sum, by a separating cutoff. -/
theorem sum_by_cutoff (v : ι → ℝ) (S : Finset ι) (θ : ℝ) (hin : ∀ i ∈ S, θ ≤ v i) (hout : ∀ j, j ∉ S → v j ≤ θ) :
    ∑ i, (if θ < v i then v i else 0) + ((S.card : ℝ) - ∑ i, (if θ < v i then (1 : ℝ) else 0)) * θ = ∑ i ∈ S, v i := by
  have key : ∀ i, (if i ∈ S then v i else 0)
      = (if θ < v i then v i else 0) + ((if i ∈ S then (1 : ℝ) else 0) - (if θ < v i then (1 : ℝ) else 0)) * θ := by
    intro i
    by_cases hi : i ∈ S
    · by_cases ht : θ < v i
      · simp [hi, ht]
      · have : v i = θ := le_antisymm (not_lt.mp ht) (hin i hi)
        simp [hi, this]
    · have : ¬ θ < v i := not_lt.mpr (hout i hi)
      simp [hi, this]
  have hc : (S.card : ℝ) = ∑ i, (if i ∈ S then (1 : ℝ) else 0) := by simp
  have hs : ∑ i ∈ S, v i = ∑ i, (if i ∈ S then v i else 0) := by simp
  rw [hs, hc, ← Finset.sum_sub_distrib, Finset.sum_mul, ← Finset.sum_add_distrib]
  exact (Finset.sum_congr rfl fun i _ => key i).symm

/-- How many entries reach a threshold. -/
def reach (v : ι → ℝ) (θ : ℝ) : Nat := (Finset.univ.filter fun i => θ ≤ v i).card

/-- A threshold above some chosen entry, itself above every other one, is reached by fewer than were chosen. -/
theorem reach_lt (v : ι → ℝ) (S : Finset ι) (i₀ : ι) (hi₀ : i₀ ∈ S) (θ : ℝ) (h : v i₀ < θ) (hout : ∀ j, j ∉ S → v j ≤ v i₀) :
    reach v θ < S.card := by
  refine Finset.card_lt_card ⟨fun i hi => ?_, fun hsub => ?_⟩
  · by_contra hn
    have := (Finset.mem_filter.mp hi).2
    have := hout i hn
    linarith
  · have := (Finset.mem_filter.mp (hsub hi₀)).2
    linarith

/-- A threshold that no chosen entry misses is reached by at least as many as were chosen. -/
theorem le_reach (v : ι → ℝ) (S : Finset ι) (θ : ℝ) (h : ∀ i ∈ S, θ ≤ v i) : S.card ≤ reach v θ :=
  Finset.card_le_card fun i hi => Finset.mem_filter.mpr ⟨Finset.mem_univ i, h i hi⟩

/-- The pattern `p` that the search ends at: enough entries reach it and too few reach its successor. Where the chosen entries
    clear the others by a unit in the last place, it separates them. -/
theorem separates (v : ι → ℝ) (S : Finset ι) (i₀ : ι) (hi₀ : i₀ ∈ S) (hmin : ∀ i ∈ S, v i₀ ≤ v i)
    (b : ℝ) (hb : ∀ j, j ∉ S → v j ≤ b) (hb0 : 0 ≤ b) (hb1 : b ≤ 2 ^ 127)
    (hap : 2⁻¹ ^ 23 * v i₀ + 2⁻¹ ^ 126 ≤ v i₀ - b)
    (p : Nat) (hp : p ≤ 0x7F7FFFFF) (hge : S.card ≤ reach v (Floats.val p))
    (hlt : p = 0x7F7FFFFF ∨ reach v (Floats.val (p + 1)) < S.card) :
    (∀ i ∈ S, Floats.val p ≤ v i) ∧ ∀ j, j ∉ S → v j ≤ Floats.val p := by
  have hv0 : 0 ≤ 2⁻¹ ^ 23 * v i₀ + 2⁻¹ ^ 126 → b ≤ v i₀ := fun h => by linarith
  have hpos : 0 ≤ v i₀ := by
    by_contra hn
    have : v i₀ * (1 - 2⁻¹ ^ 23) ≥ b + 2⁻¹ ^ 126 := by linarith
    have h2 : (0 : ℝ) < 1 - 2⁻¹ ^ 23 := by norm_num
    have h3 : v i₀ * (1 - 2⁻¹ ^ 23) < 0 := mul_neg_of_neg_of_pos (not_le.mp hn) h2
    have h4 : (0 : ℝ) ≤ 2⁻¹ ^ 126 := by positivity
    linarith
  have hbv : b ≤ v i₀ := hv0 (by positivity)
  refine ⟨fun i hi => ?_, fun j hj => ?_⟩
  · by_contra hn
    have h1 : v i₀ < Floats.val p := lt_of_le_of_lt (hmin i hi) (not_le.mp hn)
    exact absurd hge (not_le.mpr (reach_lt v S i₀ hi₀ _ h1 fun j hj => (hb j hj).trans hbv))
  · by_contra hn
    have h1 : Floats.val p < b := lt_of_lt_of_le (not_le.mp hn) (hb j hj)
    rcases hlt with rfl | hlt
    · have := Floats.val_last
      linarith
    · have h2 := Floats.val_succ p
      have h3 : Floats.val (p + 1) ≤ v i₀ := by
        have e : (2⁻¹ : ℝ) ^ 23 * Floats.val p ≤ 2⁻¹ ^ 23 * v i₀ :=
          mul_le_mul_of_nonneg_left (h1.le.trans hbv) (by positivity)
        linarith
      exact absurd hlt (not_lt.mpr (le_reach v S _ fun i hi => h3.trans (hmin i hi)))

/-- Choosing at least as many places as have a nonzero entry, largest first, misses none of them. -/
theorem sum_all (v : ι → ℝ) (hv : ∀ i, 0 ≤ v i) (S N : Finset ι) (hN : ∀ i, i ∉ N → v i = 0) (hc : N.card ≤ S.card)
    (hS : ∀ i ∈ S, ∀ j, j ∉ S → v j ≤ v i) : ∑ i ∈ S, v i = ∑ i, v i := by
  refine Finset.sum_subset (Finset.subset_univ S) fun j _ hj => ?_
  by_contra hne
  have hjpos : 0 < v j := lt_of_le_of_ne (hv j) (Ne.symm hne)
  have hsub : S ⊂ N := by
    refine ⟨fun i hi => ?_, fun h => ?_⟩
    · by_contra hn
      have := hS i hi j hj
      rw [hN i hn] at this
      linarith
    · exact hj (h (by by_contra hn; exact hne (hN j hn)))
  exact absurd hc (not_le.mpr (Finset.card_lt_card hsub))

end Cert.Cutoff
end
-- ==== Proof.Mined.lean ====
/- The second kernel's rows: the search ends at a cutoff that separates the mined anchors from the others, so each row's share of
   the first result is its positive anchors' loss and its mined anchors' loss. -/
module

public import proofs.«01_k».proof.Proof.Second
public import proofs.«01_k».proof.Proof.Needed
public import proofs.«01_k».proof.Proof.Halving
public import proofs.«01_k».proof.Proof.Cutoff

@[expose] public section

set_option maxRecDepth 16384

noncomputable section

namespace Cert.Second

open Cert.KernelIdeal Cert.KernelIdeal.Gen Cert.KernelIdeal.Own
open Idealize.ShloMosaic Idealize.ShloMosaic.TcCoe

/-- How many entries reach the float of pattern `p`. -/
def R (v : Fin 8732 → ℝ) (p : Nat) : Nat :=
  (Finset.univ.filter fun j => decide ((Ideal.ofBits .f32 (BitVec.ofNat 32 p) : EReal) ≤ (v j : EReal)) = true).card

theorem R_finite (v : Fin 8732 → ℝ) (p : Nat) (hp : p < 0x7F800000) : R v p = Cutoff.reach v (Floats.val p) := by
  unfold R Cutoff.reach
  congr 1
  refine Finset.filter_congr fun j _ => ?_
  have hn : (BitVec.ofNat 32 p).toNat = p := by
    rw [BitVec.toNat_ofNat]
    exact Nat.mod_eq_of_lt (by omega)
  rw [Floats.ofBits_eq _ (by omega), hn, decide_eq_true_iff, EReal.coe_le_coe_iff]

theorem R_top (v : Fin 8732 → ℝ) : R v 0x7F800000 = 0 := by
  unfold R
  rw [Finset.card_eq_zero, Finset.filter_eq_empty_iff]
  intro j _
  have e : (BitVec.ofNat 32 0x7F800000) = 0x7F800000#32 := rfl
  rw [e, Floats.ofBits_top, decide_eq_true_iff]
  exact not_le.mpr (EReal.coe_lt_top _)

theorem R_zero (v : Fin 8732 → ℝ) (hv : ∀ j, 0 ≤ v j) : R v 0 = 8732 := by
  rw [R_finite v 0 (by omega), Floats.val_zero]
  unfold Cutoff.reach
  rw [Finset.filter_true_of_mem fun j _ => hv j]
  simp

variable (x : Vec Ideal S64x8732 .f32) (tg : Vec Ideal S64x8732 .i32)
variable (L : Fin 64 → Fin 8732 → ℝ) (hx : ∀ b j, x (ix2 b j) = (L b j : EReal))

theorem pay4_at (lo hi : IVec S64x1 32) (b : Fin 64) : k1_pay4 lo hi (ix2 b 0) = Words.mid (lo (ix2 b 0)) (hi (ix2 b 0)) := by
  unfold k1_pay4
  rfl

include hx in
theorem pay5_at (lo hi : IVec S64x1 32) (b : Fin 64) :
    k1_pay5 (k1_pay17 (F := Ideal) tg) (k1_pay19 x tg) lo hi (ix2 b 0)
      = BitVec.ofBool (decide (kk tg b ≤ R (vv tg L b) (Words.mid (lo (ix2 b 0)) (hi (ix2 b 0))).toNat)) := by
  have e : k1_pay5 (k1_pay17 (F := Ideal) tg) (k1_pay19 x tg) lo hi (ix2 b 0)
      = IntOp.cmpi .sge (FloatOps.fptosi (F := Ideal) (φ := .f32) 32 (∑ j, FloatOps.sitofp (F := Ideal) FTy.f32
          (BitVec.setWidth 32 (BitVec.ofBool (decide
            ((Ideal.ofBits .f32 (k1_pay4 lo hi (ix2 b 0)) : EReal) ≤ k1_pay19 x tg (ix2 b j)))))))
        (k1_pay17 (F := Ideal) tg (ix2 b 0)) := by
    pointwise [k1_pay5]
  rw [e, pay17_at, pay4_at]
  simp only [pay19_at x tg L hx, Words.indicator]
  rw [Words.sum_indicator]
  have hc : (Finset.univ.filter fun j => decide ((Ideal.ofBits .f32 (Words.mid (lo (ix2 b 0)) (hi (ix2 b 0))) : EReal)
      ≤ (vv tg L b j : EReal)) = true).card = R (vv tg L b) (Words.mid (lo (ix2 b 0)) (hi (ix2 b 0))).toNat := by
    unfold R
    rw [BitVec.ofNat_toNat, BitVec.setWidth_eq]
  rw [hc]
  have hle : R (vv tg L b) (Words.mid (lo (ix2 b 0)) (hi (ix2 b 0))).toNat ≤ 8732 := by
    unfold R
    exact (Finset.card_le_univ _).trans (by simp)
  rw [Words.fptosi_nat _ (by omega), WordCmp.cmpi_sge_ofNat (by omega) (by unfold kk; omega)]

variable (hL : ∀ b j, 0 ≤ L b j)

theorem vv_nonneg (hL : ∀ b j, 0 ≤ L b j) (b : Fin 64) (j : Fin 8732) : 0 ≤ vv tg L b j := by
  unfold vv
  split
  · exact le_rfl
  · exact hL b j

include hx hL in
/-- The search interval of every row after `i` halvings. -/
theorem fold_inv (n : Nat) (l : List (Fin n)) (p : IVec S64x1 32 × IVec S64x1 32) (i : Nat) (hi : i + l.length ≤ 31)
    (h : ∀ b, Halving.Inv (R (vv tg L b)) (kk tg b) i (p.1 (ix2 b 0)) (p.2 (ix2 b 0))) (b : Fin 64) :
    Halving.Inv (R (vv tg L b)) (kk tg b) (i + l.length)
      ((l.foldl (fun p _ => halve1 x tg p) p).1 (ix2 b 0)) ((l.foldl (fun p _ => halve1 x tg p) p).2 (ix2 b 0)) := by
  induction l generalizing p i with
  | nil => exact h b
  | cons a l ih =>
    rw [List.foldl_cons, List.length_cons, show i + (l.length + 1) = (i + 1) + l.length by omega]
    rw [List.length_cons] at hi
    refine ih (halve1 x tg p) (i + 1) (by omega) fun b => ?_
    have hs := Halving.step (R (vv tg L b)) (kk tg b) i (p.1 (ix2 b 0)) (p.2 (ix2 b 0)) _ (pay5_at x tg L hx p.1 p.2 b) (by omega) (h b)
    rw [← pay4_at] at hs
    exact hs

include hx hL in
/-- The pattern the search ends at, in a row that mines anything. -/
theorem cut_at (b : Fin 64) (hk : 0 < kk tg b) :
    ∃ p, p ≤ 0x7F7FFFFF ∧ (cut1 x tg (ix2 b 0)).toNat = p ∧ kk tg b ≤ Cutoff.reach (vv tg L b) (Floats.val p)
      ∧ (p = 0x7F7FFFFF ∨ Cutoff.reach (vv tg L b) (Floats.val (p + 1)) < kk tg b) := by
  have hlen : (List.finRange k1_t1_loop.trips).length = 31 := by
    rw [List.length_finRange]
    decide
  have h := fold_inv x tg L hx hL k1_t1_loop.trips (List.finRange k1_t1_loop.trips) (k1_pay2, k1_pay3) 0 (by omega)
    (fun b => Halving.start _ _ (by rw [R_zero _ (vv_nonneg tg L hL b)]; unfold kk; omega)) b
  rw [hlen] at h
  obtain ⟨h1, h2, h3⟩ := Halving.done _ _ _ _ h hk (R_top _)
  refine ⟨_, h1, rfl, ?_, ?_⟩
  · rw [← R_finite _ _ (by omega)]
    exact h2
  · by_cases hp : (cut1 x tg (ix2 b 0)).toNat = 0x7F7FFFFF
    · exact .inl hp
    · refine .inr ?_
      have h1' : (cut1 x tg (ix2 b 0)).toNat ≤ 0x7F7FFFFF := h1
      have h3' : R (vv tg L b) ((cut1 x tg (ix2 b 0)).toNat + 1) < kk tg b := h3
      rw [R_finite _ _ (by omega)] at h3'
      exact h3'

/-- What the mined anchors of a row are: as many as the row mines, none smaller than another, and either the row mines all its
    negatives or none, or the smallest mined entry clears the largest other one. -/
structure Chosen (v : Fin 8732 → ℝ) (N K : Nat) (S : Finset (Fin 8732)) : Prop where
  card : S.card = K
  top : ∀ i ∈ S, ∀ j, j ∉ S → v j ≤ v i
  decided : (8732 - N ≤ K ∨ K = 0) ∨ ∃ i₀ ∈ S, (∀ i ∈ S, v i₀ ≤ v i) ∧ ∃ c : ℝ, 0 ≤ c ∧ c ≤ 2 ^ 127 ∧ (∀ j, j ∉ S → v j ≤ c)
    ∧ 2⁻¹ ^ 23 * v i₀ + 2⁻¹ ^ 126 ≤ v i₀ - c

include hx in
theorem pay8_at (b : Fin 64) (w : IVec S64x1 32) (nd : IVec S64x1 1) (hn : nd (ix2 b 0) = 1#1) (θ : ℝ)
    (hθ : (Ideal.ofBits .f32 (w (ix2 b 0)) : EReal) = (θ : EReal)) :
    k1_pay8 (k1_pay17 (F := Ideal) tg) (k1_pay19 x tg) nd w (ix2 b 0)
      = ((∑ j, (if θ < vv tg L b j then vv tg L b j else 0)
          + ((kk tg b : ℝ) - ∑ j, (if θ < vv tg L b j then (1 : ℝ) else 0)) * θ : ℝ) : EReal) := by
  have e : k1_pay8 (k1_pay17 (F := Ideal) tg) (k1_pay19 x tg) nd w (ix2 b 0)
      = Scalar.select (nd (ix2 b 0))
      (∑ j, (k1_pay19 x tg (ix2 b j) : EReal) *
            FloatOps.sitofp (F := Ideal) FTy.f32
              (BitVec.setWidth 32 (BitVec.ofBool (decide ((Ideal.ofBits FTy.f32 (w (ix2 b 0)) : EReal) < k1_pay19 x tg (ix2 b j))))) +
        (FloatOps.sitofp (F := Ideal) FTy.f32 (k1_pay17 (F := Ideal) tg (ix2 b 0)) -
            ∑ j, FloatOps.sitofp (F := Ideal) FTy.f32
                (BitVec.setWidth 32 (BitVec.ofBool (decide ((Ideal.ofBits FTy.f32 (w (ix2 b 0)) : EReal) < k1_pay19 x tg (ix2 b j)))))) *
          Ideal.ofBits FTy.f32 (w (ix2 b 0)))
      0 := by
    pointwise [k1_pay8]
  rw [e, hn, hθ, pay17_at]
  simp only [pay19_at x tg L hx, Words.indicator, EReal.coe_lt_coe_iff, decide_eq_true_eq]
  rw [Words.sitofp_nat _ (by unfold kk; omega)]
  have h1 : ∀ j, ((vv tg L b j : ℝ) : EReal) * (if θ < vv tg L b j then (1 : EReal) else 0)
      = ((if θ < vv tg L b j then vv tg L b j else 0 : ℝ) : EReal) := fun j => by
    split_ifs <;> simp
  have h2 : ∀ j, (if θ < vv tg L b j then (1 : EReal) else 0) = ((if θ < vv tg L b j then (1 : ℝ) else 0 : ℝ) : EReal) := fun j => by
    split_ifs <;> simp
  simp only [h1]
  simp only [h2]
  rw [Loss.coe_sum, Loss.coe_sum, ← EReal.coe_sub, ← EReal.coe_mul, ← EReal.coe_add]
  rfl

theorem select_true (a c : EReal) : Scalar.select (BitVec.ofBool true) a c = a := rfl

theorem select_false (a c : EReal) : Scalar.select (BitVec.ofBool false) a c = c := rfl

include hx hL in
/-- A row's share of the first result's numerator. -/
theorem row_at (b : Fin 64) (S : Finset (Fin 8732)) (hS : Chosen (vv tg L b) (np tg b) (kk tg b) S) :
    (k1_pay18 x tg (ix2 b 0) : EReal) + Scalar.select (k1_pay21 (F := Ideal) tg (ix2 b 0)) (k1_pay20 x tg (ix2 b 0)) (mined1 x tg (ix2 b 0))
      = ((∑ j, (if P tg b j then L b j else 0) + ∑ j ∈ S, vv tg L b j : ℝ) : EReal) := by
  rw [pay18_at x tg L hx, EReal.coe_add]
  refine congrArg (_ + ·) ?_
  rw [pay21_at, pay20_at x tg L hx]
  by_cases hfull : 8732 - np tg b ≤ kk tg b
  · rw [decide_eq_true hfull]
    rw [select_true]
    refine congrArg Real.toEReal (Eq.symm ?_)
    refine Cutoff.sum_all (vv tg L b) (vv_nonneg tg L hL b) S (Finset.univ.filter fun j => ¬ P tg b j = true) (fun i hi => ?_) ?_ hS.top
    · have : P tg b i = true := by
        by_contra hn
        exact hi (Finset.mem_filter.mpr ⟨Finset.mem_univ i, hn⟩)
      simp [vv, this]
    · have hc := Finset.card_filter_add_card_filter_not (s := (Finset.univ : Finset (Fin 8732))) (fun j => P tg b j = true)
      rw [Finset.card_univ, Fintype.card_fin] at hc
      rw [hS.card]
      unfold np at hfull
      omega
  · rw [decide_eq_false hfull]
    rw [select_false]
    by_cases hk : 0 < kk tg b
    · have hneed : k1_pay22 (F := Ideal) tg (ix2 b 0) = 1#1 := by
        rw [pay22_at, decide_eq_true (And.intro hfull hk)]
        decide
      unfold mined1
      rw [if_pos (needed_of tg b hneed)]
      obtain ⟨p, hp, hpe, hge, hlt⟩ := cut_at x tg L hx hL b hk
      have hθ : (Ideal.ofBits .f32 (cut1 x tg (ix2 b 0)) : EReal) = (Floats.val p : EReal) := by
        rw [Floats.ofBits_eq _ (by omega), hpe]
      rw [pay8_at x tg L hx b _ _ hneed _ hθ]
      refine congrArg Real.toEReal ?_
      obtain ⟨i₀, hi₀, hmin, c, hc0, hc1, hc, hap⟩ := hS.decided.resolve_left (by omega)
      obtain ⟨hin, hout⟩ := Cutoff.separates (vv tg L b) S i₀ hi₀ hmin c hc hc0 hc1 hap p hp (by rw [hS.card]; exact hge)
        (by rw [hS.card]; exact hlt)
      have := Cutoff.sum_by_cutoff (vv tg L b) S (Floats.val p) hin hout
      rw [hS.card] at this
      exact this
    · have hk0 : kk tg b = 0 := by omega
      have hSe : S = ∅ := Finset.card_eq_zero.mp (hS.card.trans hk0)
      subst hSe
      have hneed : k1_pay22 (F := Ideal) tg (ix2 b 0) = 0#1 := by
        rw [pay22_at, decide_eq_false (fun h => hk h.2)]
        decide
      rw [Finset.sum_empty, EReal.coe_zero]
      unfold mined1
      split
      · have e : k1_pay8 (k1_pay17 (F := Ideal) tg) (k1_pay19 x tg) (k1_pay22 (F := Ideal) tg) (cut1 x tg) (ix2 b 0)
            = Scalar.select (k1_pay22 (F := Ideal) tg (ix2 b 0)) (k1_pay8 (k1_pay17 (F := Ideal) tg) (k1_pay19 x tg) (fun _ => 1#1) (cut1 x tg) (ix2 b 0)) 0 := by
          pointwise [k1_pay8]
        rw [e, hneed]
        exact select_false _ _
      · pointwise [k1_pay23]

end Cert.Second
end
-- ==== Proof.FirstBlocks.lean ====
/- What the first kernel finds in its staging buffers: at a row inside the array, the array's row at the block's offset. -/
module

public import proofs.«01_k».proof.Proof.IRegions
public import proofs.«01_k».proof.Proof.Mined
public import Idealize.ShloMosaic.Lib.Pipeline.ArrRel
public import Idealize.ShloMosaic.Lib.Pipeline.ValueKit.Geometry

@[expose] public section

set_option maxRecDepth 16384

noncomputable section

namespace Cert.First

open Cert.KernelIdeal Cert.KernelIdeal.Gen Cert.KernelIdeal.Own
open Idealize.ShloMosaic Idealize.ShloMosaic.TcCoe
open Idealize.ShloMosaic.Pipeline

/-- A coordinate of a block lying inside the array is among those the transfer moves. -/
theorem lt_extent {o k d j : ℕ} (c : Clip) (h : Clip.OkAt o k d c) (hj : j < k) (hd : o + j < d) : j < c.extent k := by
  cases c with
  | none => exact hj
  | some n =>
    have h2 : o + n = d := h.2.2
    show j < n
    omega

/-- A fetched block at an index whose place lies inside the array. -/
theorem fill_at {G : Grid} (w : Window sig G) (t : Fin G.N) (d : w.block.Idx → Elt Ideal w.elt)
    (f : w.arr.view.ty.Contents (Elt Ideal)) (j : w.block.Idx)
    (hd : ∀ a, w.kind.off (w.index t a) (w.size a) + (j a).val < w.shape.size a) :
    ∃ y : (w.xblock (G.coords t)).Idx, (∀ a, (y a).val = (j a).val) ∧
      w.fill (G.coords t) d ((w.blk t).view.read (Elt Ideal) f) j = (w.blk t).view.read (Elt Ideal) f y := by
  have hm : ∀ a, (j a).val < w.xsize (G.coords t) a := fun a => lt_extent _ (w.hclip (G.coords t) a) (j a).isLt (hd a)
  refine ⟨fun a => ⟨(j a).val, hm a⟩, fun _ => rfl, ?_⟩
  unfold Window.fill
  rw [dif_pos ((w.moved_iff _ j).mpr hm)]

variable (V : Valuation τ sig (Elt Ideal)) (t : Fin cfg0.N)

/-- The grid's one coordinate at a point is the point's number. -/
theorem coord_val : ((grid0.coords t) 0).val = t.val := by
  show t.val / 1 % 137 = t.val
  have h : t.val < 137 := lt_of_lt_of_eq t.isLt N_0
  omega

theorem row_val : (BitVec.ofNat 32 ((grid0.coords t) 0).val).toNat = t.val := by
  rw [coord_val]
  have h : t.val < 137 := lt_of_lt_of_eq t.isLt N_0
  simp only [BitVec.toNat_ofNat]
  omega

theorem blk0_0_at (d) (i : Fin 4096) (k : Fin 81) (h : t.val * 4096 + i.val < 558848) :
    blk0 V 0 t d (ix2 i k) = V (Proc.devRef .tc main_v0) (ix2 ⟨t.val * 4096 + i.val, h⟩ k) := by
  have hi : win0_0.index t 0 = t.val := row_val t
  obtain ⟨y, hy, e⟩ := fill_at win0_0 t d (V (Proc.devRef .tc main_v0)) (ix2 i k) (fun a => by
    fin_cases a
    · show win0_0.index t 0 * 4096 + i.val < 558848
      rw [hi]; exact h
    · show 0 * 81 + k.val < 81
      omega)
  refine e.trans ?_
  show V (Proc.devRef .tc main_v0) ((win0_0.rect t).emb y) = _
  refine congrArg _ (Shape.idx_ext₂ ?_ ?_)
  · rw [Window.rect_emb_val win0_0 t y 0, hi, hy]; rfl
  · rw [Window.rect_emb_val win0_0 t y 1, hy]
    show 0 * 81 + k.val = k.val
    omega

theorem blk0_1_at (d) (i : Fin 4096) (k : Fin 1) (h : t.val * 4096 + i.val < 558848) :
    blk0 V 1 t d (ix2 i k) = V (Proc.devRef .tc main_v1) (ix2 ⟨t.val * 4096 + i.val, h⟩ k) := by
  have hi : win0_1.index t 0 = t.val := row_val t
  obtain ⟨y, hy, e⟩ := fill_at win0_1 t d (V (Proc.devRef .tc main_v1)) (ix2 i k) (fun a => by
    fin_cases a
    · show win0_1.index t 0 * 4096 + i.val < 558848
      rw [hi]; exact h
    · show 0 * 1 + k.val < 1
      omega)
  refine e.trans ?_
  show V (Proc.devRef .tc main_v1) ((win0_1.rect t).emb y) = _
  refine congrArg _ (Shape.idx_ext₂ ?_ ?_)
  · rw [Window.rect_emb_val win0_1 t y 0, hi, hy]; rfl
  · rw [Window.rect_emb_val win0_1 t y 1, hy]
    show 0 * 1 + k.val = k.val
    omega

theorem blk0_2_at (d) (i : Fin 4096) (k : Fin 4) (h : t.val * 4096 + i.val < 558848) :
    blk0 V 2 t d (ix2 i k) = V (Proc.devRef .tc main_v2) (ix2 ⟨t.val * 4096 + i.val, h⟩ k) := by
  have hi : win0_2.index t 0 = t.val := row_val t
  obtain ⟨y, hy, e⟩ := fill_at win0_2 t d (V (Proc.devRef .tc main_v2)) (ix2 i k) (fun a => by
    fin_cases a
    · show win0_2.index t 0 * 4096 + i.val < 558848
      rw [hi]; exact h
    · show 0 * 4 + k.val < 4
      omega)
  refine e.trans ?_
  show V (Proc.devRef .tc main_v2) ((win0_2.rect t).emb y) = _
  refine congrArg _ (Shape.idx_ext₂ ?_ ?_)
  · rw [Window.rect_emb_val win0_2 t y 0, hi, hy]; rfl
  · rw [Window.rect_emb_val win0_2 t y 1, hy]
    show 0 * 4 + k.val = k.val
    omega

theorem blk0_3_at (d) (i : Fin 4096) (k : Fin 4) (h : t.val * 4096 + i.val < 558848) :
    blk0 V 3 t d (ix2 i k) = V (Proc.devRef .tc main_v3) (ix2 ⟨t.val * 4096 + i.val, h⟩ k) := by
  have hi : win0_3.index t 0 = t.val := row_val t
  obtain ⟨y, hy, e⟩ := fill_at win0_3 t d (V (Proc.devRef .tc main_v3)) (ix2 i k) (fun a => by
    fin_cases a
    · show win0_3.index t 0 * 4096 + i.val < 558848
      rw [hi]; exact h
    · show 0 * 4 + k.val < 4
      omega)
  refine e.trans ?_
  show V (Proc.devRef .tc main_v3) ((win0_3.rect t).emb y) = _
  refine congrArg _ (Shape.idx_ext₂ ?_ ?_)
  · rw [Window.rect_emb_val win0_3 t y 0, hi, hy]; rfl
  · rw [Window.rect_emb_val win0_3 t y 1, hy]
    show 0 * 4 + k.val = k.val
    omega

end Cert.First
-- ==== Proof.FirstArrays.lean ====
/- What the first call leaves in its two result arrays, in terms of what its body leaves: a row of the losses is a row of
   some block's losses, and the accumulator is the running sum over the grid's points. -/
module

public import proofs.«01_k».proof.Proof.FirstBlocks

@[expose] public section

set_option maxRecDepth 16384

noncomputable section

namespace Cert.First

open Cert.KernelIdeal Cert.KernelIdeal.Gen Cert.KernelIdeal.Own
open Idealize.ShloMosaic Idealize.ShloMosaic.TcCoe
open Idealize.SL Idealize.SL.RA
open Idealize.ShloMosaic.Pipeline

variable {U : Type} [URA U]
variable (V : Valuation τ sig (Elt Ideal)) (c : Dev nD)

/-- A row of the array of losses was written by a block holding that row. -/
theorem loss_row (G : Buf (Elt Ideal) ((cfg0.win 4).arr.view.loc (c.tc : Thread nD τ)))
    (h : (rdat0 (U := U) V c).ArrAt 4 cfg0.N G) (r : Fin 558848) :
    ∃ (t : Fin cfg0.N) (i : Fin 4096) (d0 : _) (d1 : _), r.val = t.val * 4096 + i.val ∧
      (G : Vec Ideal S558848x1 .f32) (ix2 r 0) = k0_pay4 (blk0 V 0 t d0) (blk0 V 1 t d1) (ix2 i 0) := by
  obtain ⟨X, hX, hA⟩ := h.exists_exact
  have e := hA (Function.update (fun _ _ _ => Classical.arbitrary _) 4 X) fun u _ _ => by rw [Function.update_self]
  rw [e]
  refine Dat.arrAt_forall_of_covers ((rdat0 (U := U) V c).withAfter (Function.update (fun _ _ _ => Classical.arbitrary _) 4 X)) (4 : Fin cfg0.W) (fun (idx : S558848x1.Idx) (v : EReal) =>
    ∃ (t : Fin cfg0.N) (i : Fin 4096) (d0 : _) (d1 : _), (idx 0).val = t.val * 4096 + i.val ∧
      v = k0_pay4 (blk0 V 0 t d0) (blk0 V 1 t d1) (ix2 i 0)) (by decide +kernel) (fun t hf y => ?_) (ix2 r 0)
  obtain ⟨Y, -, d0, d1, hd⟩ := hX t t.isLt hf
  have hy0 : (y 0).val < 4096 := lt_of_lt_of_le (y 0).isLt (win0_4.xsize_le (grid0.coords t) 0)
  refine ⟨t, ⟨(y 0).val, hy0⟩, d0, d1, ?_, ?_⟩
  · show ((win0_4.rect t).emb y 0).val = _
    rw [Window.rect_emb_val win0_4 t y 0, show win0_4.index t 0 = t.val from row_val t]
    rfl
  · rw [RDat.withAfter_after, Function.update_self, hd]
    refine congrArg (k0_pay4 (blk0 V 0 t d0) (blk0 V 1 t d1)) (Shape.idx_ext₂ rfl ?_)
    have hy1 : (y 1).val < 1 := lt_of_lt_of_le (y 1).isLt (win0_4.xsize_le (grid0.coords t) 1)
    show (y 1).val = 0
    omega

/-- The last point of the grid. -/
def lastPoint : Fin cfg0.N := ⟨136, by rw [show cfg0.N = 137 from N_0]; omega⟩

theorem whole5 : (cfg0.win 5).WholeAt lastPoint := by
  refine ⟨(flush0_5 lastPoint).mpr rfl, fun t ht => Fin.ext ?_, by decide +kernel⟩
  have h := (flush0_5 t).mp ht
  have h2 : t.val < 137 := lt_of_lt_of_eq t.isLt N_0
  show t.val = 136
  omega

/-- The accumulator array ends as the body left its buffer at the last point. -/
theorem acc_last (G : Buf (Elt Ideal) ((cfg0.win 5).arr.view.loc (c.tc : Thread nD τ)))
    (h : (rdat0 (U := U) V c).ArrAt 5 cfg0.N G) :
    ∃ X : Vec Ideal S1x1 .f32, (rdat0 (U := U) V c).Leaves 5 lastPoint X ∧
      (G : Vec Ideal S1x1 .f32) (ix2 0 0) = X (ix2 0 0) := by
  obtain ⟨X, hX, hG⟩ := h.emb_eq_of_wholeAt whole5
  exact ⟨X, hX, (hG (ix2 0 0)).trans rfl⟩

/-- The accumulator is reset at the first point, -/
theorem cond_first (t : Fin cfg0.N) (h : t.val = 0) : k0_cond1 (grid0.coords t) = 1#1 := by
  rcases cond_excl t with ⟨h1, -, -⟩ | ⟨-, -, h3⟩
  · exact h1
  · exact absurd h h3

/-- and at no other. -/
theorem cond_later (t : Fin cfg0.N) (h : t.val ≠ 0) : ¬ k0_cond1 (grid0.coords t) = 1#1 := by
  rcases cond_excl t with ⟨-, -, h3⟩ | ⟨h1, -, -⟩
  · exact absurd h3 h
  · exact h1

theorem pay2_at (w : BitVec 32) (v5 : IVec S4096x1 32) (v37 : FVec Ideal S4096x4 .f32) (v38 : IVec S4096x1 32) (k : BitVec 32)
    (y : Vec Ideal S1x1 .f32) :
    (k0_pay2 w v5 v37 v38 k y (ix2 0 0) : EReal) = y (ix2 0 0) + (k0_pay1 w v5 v37 v38 k (ix2 0 0) : EReal) := by
  unfold k0_pay2
  pointwise []

theorem fetch0_5 (t : Fin cfg0.N) : (cfg0.win 5).fetch t = false := rfl

/-- What the body may leave in the accumulator's buffer is the running sum of any quantity its addends agree with. -/
theorem acc_leaves (g : ℕ → EReal)
    (hg : ∀ (t : Fin cfg0.N) d1 d2 d3, (k0_pay1 (F := Ideal) (BitVec.ofNat 32 ((grid0.coords t) 0).val) (k0_pay3 (blk0 V 1 t d1))
      (k0_pay5 (blk0 V 2 t d2) (blk0 V 3 t d3)) (iota .tc S4096x1 32 [0] iota_S4096x1_d0_w32) 4096#32 (ix2 0 0) : EReal) = g t.val)
    (n : ℕ) : ∀ (hn : n < cfg0.N) (X : Vec Ideal S1x1 .f32), (rdat0 (U := U) V c).Leaves 5 ⟨n, hn⟩ X →
      (X (ix2 0 0) : EReal) = ∑ k ∈ Finset.range (n + 1), g k := by
  induction n with
  | zero =>
    intro hn X hX
    obtain ⟨Y, -, d1, d2, d3, hd⟩ := hX
    rw [hd, zero_add, Finset.sum_range_one]
    unfold acc0
    rw [if_pos (cond_first _ rfl)]
    exact hg ⟨0, hn⟩ d1 d2 d3
  | succ n ih =>
    intro hn X hX
    obtain ⟨Y, hY, d1, d2, d3, hd⟩ := hX
    have hY' : (rdat0 (U := U) V c).Leaves 5 ⟨n, Nat.lt_of_succ_lt hn⟩ Y := by
      rcases ((rdat0 (U := U) V c).finds_of_pos (w := 5) (t := ⟨n + 1, hn⟩) (fetch0_5 _) (Nat.succ_ne_zero n) Y).mp hY with hf | hl
      · exfalso
        have h := (flush0_5 _).mp hf
        have h2 : n + 1 < 137 := lt_of_lt_of_eq hn N_0
        have h3 : n % 137 = 136 := h
        omega
      · exact hl
    rw [hd, Finset.sum_range_succ]
    unfold acc0
    rw [if_neg (cond_later _ (Nat.succ_ne_zero n)), pay2_at, ih _ Y hY']
    exact congrArg _ (hg ⟨n + 1, hn⟩ d1 d2 d3)

end Cert.First
-- ==== Proof.Ref.lean ====
/- The reference's mathematics in named stages, as its printed operations spell it, and the precondition's over the same
   stages. Each stage is a function of the arrays alone; the printed terms unfold to their compositions. -/
module

public import proofs.«01_k».proof.Proof.Gen.ReferenceIdeal.Run
public import proofs.«01_k».proof.Pre_mining_is_decided
public import Idealize.ShloMosaic.Lib.Pointwise

@[expose] public section

noncomputable section

namespace Cert.Stage

open Cert.ReferenceIdeal Cert.ReferenceIdeal.Gen
open Idealize.ShloMosaic Idealize.ShloMosaic.TcCoe

/-- The class of each anchor: ignored (negative) targets read as background. -/
def cls (tg : IVec S64x8732 32) : IVec S64x8732 32 :=
  select (cmpi .slt tg (broadcastInDim S64x8732 ![] bcast_S_S64x8732 (constantI S_ 32 0#32)))
    (broadcastInDim S64x8732 ![] bcast_S_S64x8732 (id (constantI S_ 32 0#32))) tg

/-- Whether an anchor is positive. -/
def pos (tg : IVec S64x8732 32) : IVec S64x8732 1 :=
  cmpi .sgt (cls tg) (broadcastInDim S64x8732 ![] bcast_S_S64x8732 (constantI S_ 32 0#32))

/-- `jnp.take_along_axis` of the flattened rows: the index wrapped and checked, then the gather. -/
def take (x : FVec Ideal S558848x81 .f32) (t : IVec S558848x1 32) : FVec Ideal S558848x1 .f32 :=
  let v5 : IVec S558848x1x1 32 := shapeCast S558848x1x1
    (select (cmpi .slt t (broadcastInDim S558848x1 ![] bcast_S_S558848x1 (constantI S_ 32 0#32)))
      (addi t (broadcastInDim S558848x1 ![] bcast_S_S558848x1 (constantI S_ 32 81#32))) t) shapeCasts_S558848x1_S558848x1x1
  select (Host.reduce IntOp.andi
      (andi (cmpi .sge v5 (broadcastInDim S558848x1x1 ![] bcast_S_S558848x1x1 (constantI S_ 32 0#32)))
        (cmpi .sle v5 (broadcastInDim S558848x1x1 ![0, 1, 2] bcast_S1x1x1_S558848x1x1_0_1_2
          (broadcastInDim S1x1x1 ![2] bcast_S1_S1x1x1_2 (constantI S1 32 80#32)))))
      (constantI S_ 1 1#1) reducesTo_S558848x1x1_S558848x1_d2 h_S_)
    (Host.gather gather_S558848x81_S558848x1x1_S558848x1_n_1_0_0_1_2_11 x v5)
    (broadcastInDim S558848x1 ![] bcast_S_S558848x1 (constant S_ .f32 0x7FC00000#32))

/-- The largest logit of the whole batch. -/
def top (x : FVec Ideal S558848x81 .f32) : FVec Ideal S_ .f32 :=
  Host.reduce FloatOps.maximumf x (constant S_ .f32 0xFF800000#32) reducesTo_S558848x81_S_d0_1 h_S_

/-- The log-sum-exp of each flattened row, shifted by the batch's largest logit. -/
def lse (x : FVec Ideal S558848x81 .f32) : FVec Ideal S558848x1 .f32 :=
  addf (Host.log (broadcastInDim S558848x1 ![0] bcast_S558848_S558848x1_0
      (Host.reduceAdd (Host.exp (subf x (broadcastInDim S558848x81 ![] bcast_S_S558848x81 (top x))))
        (constant S_ .f32 0x00000000#32) reducesTo_S558848x81_S558848_d1 h_S_)))
    (broadcastInDim S558848x1 ![] bcast_S_S558848x1 (top x))

/-- The loss that ranks the anchors: zero at the positive ones. -/
def lossC (x : FVec Ideal S64x8732x81 .f32) (tg : IVec S64x8732 32) : FVec Ideal S64x8732 .f32 :=
  shapeCast S64x8732
    (select (shapeCast S558848x1 (pos tg) shapeCasts_S64x8732_S558848x1)
      (broadcastInDim S558848x1 ![] bcast_S_S558848x1 (id (constant (F := Ideal) S_ .f32 0x00000000#32)))
      (subf (lse (shapeCast S558848x81 x shapeCasts_S64x8732x81_S558848x81))
        (take (shapeCast S558848x81 x shapeCasts_S64x8732x81_S558848x81)
          (shapeCast S558848x1 (cls tg) shapeCasts_S64x8732_S558848x1))))
    shapeCasts_S558848x1_S64x8732

/-- The anchors of each row in descending order of loss. -/
def order (l : FVec Ideal S64x8732 .f32) : IVec S64x8732 32 :=
  (Host.sort2 S64x8732 1 comparator_f32_i32_d1 (Host.negf l) (iotaInDim S64x8732 32 1)).2

/-- Each anchor's place in that order. -/
def rank (l : FVec Ideal S64x8732 .f32) : IVec S64x8732 32 :=
  (Host.sort2 S64x8732 1 (comparator_i32_i32_d1) (order l) (iotaInDim S64x8732 32 1)).2

/-- The number of positive anchors of each row. -/
def numPos (tg : IVec S64x8732 32) : IVec S64x1 32 :=
  broadcastInDim S64x1 ![0] bcast_S64_S64x1_0
    (Host.reduce IntOp.addi (extui 32 (pos tg) natLt_1_32) (constantI S_ 32 0#32) reducesTo_S64x8732_S64_d1 h_S_)

/-- The number of anchors to mine in each row. -/
def mine (tg : IVec S64x8732 32) : IVec S64x1 32 :=
  minsi (muli (broadcastInDim S64x1 ![] bcast_S_S64x1 (constantI S_ 32 3#32)) (numPos tg))
    (broadcastInDim S64x1 ![] bcast_S_S64x1 (constantI S_ 32 8731#32))

/-- The mined anchors. -/
def mined (x : FVec Ideal S64x8732x81 .f32) (tg : IVec S64x8732 32) : IVec S64x8732 1 :=
  cmpi .slt (rank (lossC x tg)) (broadcastInDim S64x8732 ![0, 1] bcast_S64x1_S64x8732_0_1 (mine tg))

/-- The logits less the row's largest one. -/
def low (x : FVec Ideal S64x8732x81 .f32) : FVec Ideal S64x8732x81 .f32 :=
  subf x (broadcastInDim S64x8732x81 ![0, 1, 2] bcast_S64x8732x1_S64x8732x81_0_1_2
    (broadcastInDim S64x8732x1 ![0, 1] bcast_S64x8732_S64x8732x1_0_1
      (maximumf (broadcastInDim S64x8732 ![] bcast_S_S64x8732 (constant S_ .f32 0xFF800000#32))
        (Host.reduce FloatOps.maximumf x (constant S_ .f32 0xFF800000#32) reducesTo_S64x8732x81_S64x8732_d2 h_S_))))

/-- The log-probabilities. -/
def logp (x : FVec Ideal S64x8732x81 .f32) : FVec Ideal S64x8732x81 .f32 :=
  subf (low x) (broadcastInDim S64x8732x81 ![0, 1, 2] bcast_S64x8732x1_S64x8732x81_0_1_2
    (Host.log (broadcastInDim S64x8732x1 ![0, 1] bcast_S64x8732_S64x8732x1_0_1
      (Host.reduceAdd (Host.exp (low x)) (constant S_ .f32 0x00000000#32) reducesTo_S64x8732x81_S64x8732_d2 h_S_))))

/-- `jnp.take_along_axis` along the classes. -/
def takeLast (y : FVec Ideal S64x8732x81 .f32) (t : IVec S64x8732x1 32) : FVec Ideal S64x8732x1 .f32 :=
  let v5 : IVec S64x8732x1x1 32 := shapeCast S64x8732x1x1
    (select (cmpi .slt t (broadcastInDim S64x8732x1 ![] bcast_S_S64x8732x1 (constantI S_ 32 0#32)))
      (addi t (broadcastInDim S64x8732x1 ![] bcast_S_S64x8732x1 (constantI S_ 32 81#32))) t) shapeCasts_S64x8732x1_S64x8732x1x1
  select (Host.reduce IntOp.andi
      (andi (cmpi .sge v5 (broadcastInDim S64x8732x1x1 ![] bcast_S_S64x8732x1x1 (constantI S_ 32 0#32)))
        (cmpi .sle v5 (broadcastInDim S64x8732x1x1 ![0, 1, 2, 3] bcast_S1x1x1x1_S64x8732x1x1_0_1_2_3
          (broadcastInDim S1x1x1x1 ![3] bcast_S1_S1x1x1x1_3 (constantI S1 32 80#32)))))
      (constantI S_ 1 1#1) reducesTo_S64x8732x1x1_S64x8732x1_d3 h_S_)
    (Host.gather gather_S64x8732x81_S64x8732x1x1_S64x8732x1_n_2_01_01_2_3_111 y v5)
    (broadcastInDim S64x8732x1 ![] bcast_S_S64x8732x1 (constant S_ .f32 0x7FC00000#32))

/-- Each anchor's cross entropy. -/
def nll (x : FVec Ideal S64x8732x81 .f32) (tg : IVec S64x8732 32) : FVec Ideal S64x8732 .f32 :=
  Host.negf (shapeCast S64x8732 (takeLast (logp x)
    (broadcastInDim S64x8732x1 ![0, 1] bcast_S64x8732_S64x8732x1_0_1 (cls tg))) shapeCasts_S64x8732x1_S64x8732)

/-- The normalizer: the number of positive anchors, at least one. -/
def norm (tg : IVec S64x8732 32) : FVec Ideal S_ .f32 :=
  sitofp .f32 (maxsi (Host.reduce IntOp.addi (numPos tg) (constantI S_ 32 0#32) reducesTo_S64x1_S_d0_1 h_S_) (constantI S_ 32 1#32))

/-- The first result. -/
def conf (x : FVec Ideal S64x8732x81 .f32) (tg : IVec S64x8732 32) : FVec Ideal S_ .f32 :=
  Host.divf (Host.reduceAdd (mulf (nll x tg) (uitofp .f32 (ori (pos tg) (mined x tg)))) (constant S_ .f32 0x00000000#32)
    reducesTo_S64x8732_S_d0_1 h_S_) (norm tg)

/-- The smooth L1 distance of each coordinate. -/
def smooth (p q : FVec Ideal S64x8732x4 .f32) : FVec Ideal S64x8732x4 .f32 :=
  select (cmpf .olt (Host.absf (subf p q)) (broadcastInDim S64x8732x4 ![] bcast_S_S64x8732x4 (constant S_ .f32 0x3F800000#32)))
    (mulf (mulf (broadcastInDim S64x8732x4 ![] bcast_S_S64x8732x4 (constant S_ .f32 0x3F000000#32)) (subf p q)) (subf p q))
    (subf (Host.absf (subf p q)) (broadcastInDim S64x8732x4 ![] bcast_S_S64x8732x4 (constant S_ .f32 0x3F000000#32)))

/-- The second result. -/
def loc (p q : FVec Ideal S64x8732x4 .f32) (tg : IVec S64x8732 32) : FVec Ideal S_ .f32 :=
  Host.divf (Host.reduceAdd (mulf (smooth p q) (broadcastInDim S64x8732x4 ![0, 1, 2] bcast_S64x8732x1_S64x8732x4_0_1_2
      (uitofp .f32 (broadcastInDim S64x8732x1 ![0, 1] bcast_S64x8732_S64x8732x1_0_1 (pos tg)))))
    (constant S_ .f32 0x00000000#32) reducesTo_S64x8732x4_S_d0_1_2 h_S_) (norm tg)

variable (m : (ℓ : Loc nD τ sig) → Buf (Elt Ideal) ℓ) (c : Dev nD)

set_option maxRecDepth 16384 in
set_option maxHeartbeats 4000000 in
/-- The printed first result is the stages' composition. -/
theorem res_conf : Value.res_main_v60 (F := Ideal) m c
    = conf (m ((c.tc : Thread nD τ).loc main_arg0)) (m ((c.tc : Thread nD τ).loc main_arg2)) := by
  unfold Value.res_main_v60
  rfl

/-- Every shape relation of the precondition's operations. -/
instance preFacts : Cert.Pre_mining_is_decided.Facts where
  bcast_S_S64x8732 := bcast_S_S64x8732
  shapeCasts_S64x8732x81_S558848x81 := shapeCasts_S64x8732x81_S558848x81
  shapeCasts_S64x8732_S558848x1 := shapeCasts_S64x8732_S558848x1
  bcast_S_S558848x1 := bcast_S_S558848x1
  shapeCasts_S558848x1_S558848x1x1 := shapeCasts_S558848x1_S558848x1x1
  bcast_S_S558848x1x1 := bcast_S_S558848x1x1
  bcast_S1_S1x1x1_2 := bcast_S1_S1x1x1_2
  bcast_S1x1x1_S558848x1x1_0_1_2 := bcast_S1x1x1_S558848x1x1_0_1_2
  reducesTo_S558848x1x1_S558848x1_d2 := reducesTo_S558848x1x1_S558848x1_d2
  h_S_ := h_S_
  reducesTo_S558848x81_S_d0_1 := reducesTo_S558848x81_S_d0_1
  bcast_S_S558848x81 := bcast_S_S558848x81
  reducesTo_S558848x81_S558848_d1 := reducesTo_S558848x81_S558848_d1
  bcast_S558848_S558848x1_0 := bcast_S558848_S558848x1_0
  shapeCasts_S558848x1_S64x8732 := shapeCasts_S558848x1_S64x8732
  natLt_1_32 := natLt_1_32
  reducesTo_S64x8732_S64_d1 := reducesTo_S64x8732_S64_d1
  bcast_S64_S64x1_0 := bcast_S64_S64x1_0
  bcast_S_S64x1 := bcast_S_S64x1
  bcast_S64x1_S64x8732_0_1 := bcast_S64x1_S64x8732_0_1
  bcast_S_S64x8732x81 := by decide
  gather_S558848x81_S558848x1x1_S558848x1_n_1_0_0_1_2_11_wf := gather_S558848x81_S558848x1x1_S558848x1_n_1_0_0_1_2_11_wf

/-- The least mined loss of each row. -/
def least (x : FVec Ideal S64x8732x81 .f32) (tg : IVec S64x8732 32) : FVec Ideal S64x1 .f32 :=
  broadcastInDim S64x1 ![0] bcast_S64_S64x1_0 (Host.reduce FloatOps.minimumf
    (select (mined x tg) (lossC x tg) (broadcastInDim S64x8732 ![] bcast_S_S64x8732 (id (constant S_ .f32 0x7F800000#32))))
    (constant S_ .f32 0x7F800000#32) reducesTo_S64x8732_S64_d1 h_S_)

/-- The largest loss of each row that is not mined. -/
def largest (x : FVec Ideal S64x8732x81 .f32) (tg : IVec S64x8732 32) : FVec Ideal S64x1 .f32 :=
  broadcastInDim S64x1 ![0] bcast_S64_S64x1_0 (Host.reduce FloatOps.maximumf
    (select (mined x tg) (broadcastInDim S64x8732 ![] bcast_S_S64x8732 (id (constant S_ .f32 0x00000000#32))) (lossC x tg))
    (constant S_ .f32 0xFF800000#32) reducesTo_S64x8732_S64_d1 h_S_)

/-- Whether a row's cutoff is clear. -/
def apart (x : FVec Ideal S64x8732x81 .f32) (tg : IVec S64x8732 32) : IVec S64x1 1 :=
  cmpf .oge (subf (least x tg) (largest x tg))
    (addf (mulf (broadcastInDim S64x1 ![] bcast_S_S64x1 (constant S_ .f32 0x34000000#32)) (least x tg))
      (broadcastInDim S64x1 ![] bcast_S_S64x1 (constant S_ .f32 0x00800000#32)))

/-- Whether a row mines all of its negatives or none. -/
def whole (tg : IVec S64x8732 32) : IVec S64x1 1 :=
  ori (cmpi .sge (mine tg) (subi (broadcastInDim S64x1 ![] bcast_S_S64x1 (constantI S_ 32 8732#32)) (numPos tg)))
    (cmpi .sle (mine tg) (broadcastInDim S64x1 ![] bcast_S_S64x1 (constantI S_ 32 0#32)))

set_option maxRecDepth 16384 in
set_option maxHeartbeats 4000000 in
/-- The printed precondition over the stages. -/
theorem pre_eq (x : FVec Ideal S64x8732x81 .f32) (p q : FVec Ideal S64x8732x4 .f32) (tg : IVec S64x8732 32) :
    Cert.Pre_mining_is_decided.fn (F := Ideal) x p tg q
      = (cmpf .ole (Host.absf x) (broadcastInDim S64x8732x81 ![] preFacts.bcast_S_S64x8732x81 (constant S_ .f32 0x71800000#32)),
         cmpi .slt tg (broadcastInDim S64x8732 ![] bcast_S_S64x8732 (constantI S_ 32 81#32)),
         ori (whole tg) (apart x tg)) := by
  rfl

end Cert.Stage
end
-- ==== Proof.Final.lean ====
/- The second kernel's two results over the extended reals: the rows' shares added and divided by the number of positive anchors,
   and the first kernel's partial sum divided by the same. -/
module

public import proofs.«01_k».proof.Proof.Mined

@[expose] public section

set_option maxRecDepth 16384

noncomputable section

namespace Cert.Second

open Cert.KernelIdeal Cert.KernelIdeal.Gen Cert.KernelIdeal.Own
open Idealize.ShloMosaic Idealize.ShloMosaic.TcCoe

variable (x : Vec Ideal S64x8732 .f32) (tg : Vec Ideal S64x8732 .i32)

/-- The normalizer: the number of positive anchors, at least one. -/
def den : EReal := max (((∑ b, np tg b : ℕ) : ℝ) : EReal) 1

theorem pay10_at (v10 : FVec Ideal S64x1 .f32) (v20 v24 : FVec Ideal S64x1 .f32) (v25 : IVec S64x1 1) (v44 : Vec Ideal S64x1 .f32) :
    (k1_pay10 v10 v20 v24 v25 v44 (ix2 0 0) : EReal)
      = Ideal.div (∑ b, (v20 (ix2 b 0) + Scalar.select (v25 (ix2 b 0)) (v24 (ix2 b 0)) (v44 (ix2 b 0)))) (max (∑ b, v10 (ix2 b 0)) 1) := by
  pointwise [k1_pay10, k1_pay9]
  simp only [Finset.sum_const, Finset.card_univ, Fintype.card_fin, one_smul]

theorem pay11_at (v10 : FVec Ideal S64x1 .f32) (y : Vec Ideal S1x1 .f32) :
    (k1_pay11 v10 y (ix2 0 0) : EReal) = Ideal.div (y (ix2 0 0)) (max (∑ b, v10 (ix2 b 0)) 1) := by
  pointwise [k1_pay11, k1_pay9]
  simp only [Finset.sum_const, Finset.card_univ, Fintype.card_fin, one_smul]

theorem sum_np : (∑ b, (k1_pay15 (F := Ideal) tg (ix2 b 0) : EReal)) = (((∑ b, np tg b : ℕ) : ℝ) : EReal) := by
  simp only [pay15_at]
  rw [Loss.coe_sum, Nat.cast_sum]

/-- The second result. -/
theorem loc1_at (y : Vec Ideal S1x1 .f32) :
    (k1_pay11 (k1_pay15 (F := Ideal) tg) y (ix2 0 0) : EReal) = Ideal.div (y (ix2 0 0)) (den tg) := by
  rw [pay11_at, sum_np]
  rfl

variable (L : Fin 64 → Fin 8732 → ℝ) (hx : ∀ b j, x (ix2 b j) = ((L b j : ℝ) : EReal)) (hL : ∀ b j, 0 ≤ L b j)

include hx hL in
/-- The first result. -/
theorem conf1_at (S : Fin 64 → Finset (Fin 8732)) (hS : ∀ b, Chosen (vv tg L b) (np tg b) (kk tg b) (S b)) :
    (conf1 x tg (ix2 0 0) : EReal)
      = Ideal.div ((∑ b, (∑ j, (if P tg b j then L b j else 0) + ∑ j ∈ S b, vv tg L b j) : ℝ) : EReal) (den tg) := by
  unfold conf1
  rw [pay10_at, sum_np]
  simp only [fun b => row_at x tg L hx hL b (S b) (hS b)]
  rw [Loss.coe_sum]
  rfl

end Cert.Second
end
-- ==== Proof.RefCount.lean ====
/- The reference's classes, counts and normalizer at an index: the same natural numbers the second kernel counts. -/
module

public import proofs.«01_k».proof.Proof.Ref
public import proofs.«01_k».proof.Proof.Final

@[expose] public section

set_option maxRecDepth 16384

noncomputable section

namespace Cert.Words

open Idealize.ShloMosaic

/-- The class a target names: the background where it is negative. -/
def cw (t : BitVec 32) : Nat := t.toInt.toNat

theorem cw_lt (t : BitVec 32) : cw t < 2 ^ 31 := by
  unfold cw
  have := t.toInt_lt
  omega

theorem maxsi_eq (t : BitVec 32) : IntOp.maxsi t 0#32 = BitVec.ofNat 32 (cw t) := by
  apply BitVec.eq_of_toInt_eq
  rw [WordCmp.toInt_ofNat_of_lt (w := 32) (cw_lt t)]
  unfold IntOp.maxsi cw
  simp only [BitVec.slt_eq_decide, BitVec.sle_eq_decide, BitVec.toInt_zero, decide_eq_true_eq]
  split_ifs with h
  · omega
  · rw [BitVec.toInt_zero]; omega

theorem select_eq (t : BitVec 32) : Scalar.select (IntOp.cmpi .slt t 0#32) 0#32 t = BitVec.ofNat 32 (cw t) := by
  apply BitVec.eq_of_toInt_eq
  rw [WordCmp.toInt_ofNat_of_lt (w := 32) (cw_lt t)]
  unfold IntOp.cmpi Scalar.select cw
  simp only [BitVec.slt_eq_decide, BitVec.toInt_zero]
  by_cases h : t.toInt < 0
  · simp [h]; omega
  · simp [h]; omega

end Cert.Words

namespace Cert.Stage

open Cert.ReferenceIdeal Cert.ReferenceIdeal.Gen
open Idealize.ShloMosaic Idealize.ShloMosaic.TcCoe

variable (tg : Vec Ideal S64x8732 .i32)

theorem cls_at (b : Fin 64) (j : Fin 8732) : cls tg (ix2 b j) = BitVec.ofNat 32 (Words.cw (tg (ix2 b j))) := by
  have e : cls tg (ix2 b j) = Scalar.select (IntOp.cmpi .slt (tg (ix2 b j)) 0#32) 0#32 (tg (ix2 b j)) := by
    pointwise [cls]
    rfl
  rw [e, Words.select_eq]

theorem pos_at (b : Fin 64) (j : Fin 8732) : pos tg (ix2 b j) = BitVec.ofBool (Second.P tg b j) := by
  have e : pos tg (ix2 b j) = IntOp.cmpi .sgt (Scalar.select (IntOp.cmpi .slt (tg (ix2 b j)) 0#32) 0#32 (tg (ix2 b j))) 0#32 := by
    pointwise [pos, cls]
    rfl
  rw [e, Words.pos_reference]
  rfl

theorem numPos_at (b : Fin 64) : numPos tg (ix2 b 0) = BitVec.ofNat 32 (Second.np tg b) := by
  have e : numPos tg (ix2 b 0) = Finset.fold IntOp.addi 0#32 (fun j => BitVec.setWidth 32 (pos tg (ix2 b j))) Finset.univ := by
    pointwise [numPos]
  rw [e]
  simp only [pos_at, Words.setWidth_ofBool]
  rw [Words.fold_addi]
  unfold Second.np
  rw [Finset.card_filter]

theorem mine_at (b : Fin 64) : mine tg (ix2 b 0) = BitVec.ofNat 32 (Second.kk tg b) := by
  have e : mine tg (ix2 b 0) = IntOp.minsi (IntOp.muli (3#32) (numPos tg (ix2 b 0))) 8731#32 := by
    pointwise [mine]
  rw [e, numPos_at, ← Second.pay17_at, ← Second.pay16_at]
  rfl

theorem norm_at : (Stage.norm tg ix0 : EReal) = Second.den tg := by
  have e : (Stage.norm tg ix0 : EReal) = FloatOps.sitofp (F := Ideal) .f32 (IntOp.maxsi (Finset.fold IntOp.addi 0#32
      (fun k : Fin 64 × Fin 1 => numPos tg (ix2 k.1 k.2)) Finset.univ) 1#32) := by
    pointwise [Stage.norm]
  rw [e]
  have h0 : ∀ k : Fin 64 × Fin 1, numPos tg (ix2 k.1 k.2) = BitVec.ofNat 32 (Second.np tg k.1) := fun k => by
    rw [Subsingleton.elim k.2 0, numPos_at]
  simp only [h0]
  rw [Words.fold_addi]
  have h1 : ∑ k : Fin 64 × Fin 1, Second.np tg k.1 = ∑ b, Second.np tg b := by
    rw [Fintype.sum_prod_type]
    simp
  rw [h1]
  have h2 : ∑ b, Second.np tg b ≤ 64 * 8732 := by
    refine (Finset.sum_le_card_nsmul _ _ 8732 (fun b _ => Second.np_le tg b)).trans ?_
    simp
  unfold Second.den
  generalize ∑ b, Second.np tg b = n at h2 ⊢
  have h3 : IntOp.maxsi (BitVec.ofNat 32 n) 1#32 = BitVec.ofNat 32 (max n 1) := by
    apply BitVec.eq_of_toInt_eq
    rw [WordCmp.toInt_ofNat_of_lt (w := 32) (by omega)]
    unfold IntOp.maxsi
    simp only [BitVec.slt_eq_decide, BitVec.sle_eq_decide, decide_eq_true_eq]
    have h1 : (1#32).toInt = 1 := by decide
    rw [WordCmp.toInt_ofNat_of_lt (w := 32) (a := n) (by omega), h1]
    split_ifs with h
    · rw [WordCmp.toInt_ofNat_of_lt (w := 32) (by omega)]; omega
    · rw [h1]; omega
  rw [h3, Words.sitofp_nat _ (by omega), Nat.cast_max, EReal.coe_strictMono.monotone.map_max]
  simp

end Cert.Stage
end
-- ==== Proof.Gather.lean ====
/- The two gathers along the class axis, read at an index: the entry at the start index read signed and clamped to the classes. -/
module

public import proofs.«01_k».proof.Proof.Gen.ReferenceIdeal.Run
public import Idealize.ShloMosaic.Lib.Pointwise

@[expose] public section

set_option maxRecDepth 16384

noncomputable section

namespace Cert.Stage

open Cert.ReferenceIdeal Cert.ReferenceIdeal.Gen
open Idealize.ShloMosaic Idealize.ShloMosaic.TcCoe

theorem gather_flat (x : FVec Ideal S558848x81 .f32) (idx : IVec S558848x1x1 32) (r : Fin 558848) :
    Host.gather gather_S558848x81_S558848x1x1_S558848x1_n_1_0_0_1_2_11 x idx (ix2 r 0)
      = x (ix2 r ⟨min (idx (ix3 r 0 0)).toInt.toNat 80, by omega⟩) := by
  unfold Host.gather
  congr 1
  generalize hd : gather_S558848x81_S558848x1x1_S558848x1_n_1_0_0_1_2_11 = d
  have hob : d.operandBatchingDims = [0] := by rw [← hd]; rfl
  have hcs : d.collapsedSliceDims = [1] := by rw [← hd]; rfl
  have hsm : d.startIndexMap = [1] := by rw [← hd]; rfl
  funext a
  refine Fin.ext ?_
  show d.start (ix2 r 0) idx a + d.batchCoord (ix2 r 0) a + d.offCoord (ix2 r 0) a = _
  have h01 : a = 0 ∨ a = 1 := by
    match a with
    | ⟨0, _⟩ => exact .inl rfl
    | ⟨1, _⟩ => exact .inr rfl
  rcases h01 with rfl | rfl
  · rw [GatherDims.start_batching _ _ _ _ (by rw [hob]; exact List.mem_singleton.mpr rfl),
      GatherDims.offCoord_eq_zero _ _ _ (fun h => ((GatherDims.mem_sKept _ _).mp h).2 (by rw [hob]; exact List.mem_singleton.mpr rfl))]
    simp only [Nat.zero_add, Nat.add_zero]
    unfold GatherDims.batchCoord
    rw [dif_pos (by rw [hob]; exact List.mem_singleton.mpr rfl)]
    subst hd
    rfl
  · rw [GatherDims.batchCoord_eq_zero _ _ _ (fun h => by rw [hob] at h; simp at h),
      GatherDims.offCoord_eq_zero _ _ _ (fun h => ((GatherDims.mem_sKept _ _).mp h).1 (by rw [hcs]; exact List.mem_singleton.mpr rfl))]
    simp only [Nat.add_zero]
    unfold GatherDims.start
    rw [dif_pos (by rw [hsm]; exact List.mem_singleton.mpr rfl)]
    subst hd
    have hsi : ∀ k, gather_S558848x81_S558848x1x1_S558848x1_n_1_0_0_1_2_11.siIdx (ix2 r 0) k = ix3 r 0 0 := by
      intro k
      funext b
      refine Fin.ext ?_
      match b with
      | ⟨0, _⟩ => rfl
      | ⟨1, _⟩ => rfl
      | ⟨2, _⟩ =>
        have := k.isLt
        match k with
        | ⟨0, _⟩ => rfl
    rw [hsi]
    rfl

theorem gather_class (x : FVec Ideal S64x8732x81 .f32) (idx : IVec S64x8732x1x1 32) (b : Fin 64) (j : Fin 8732) (q : S64x8732x1x1.Idx)
    (hq : ∀ a, (q a).val = (![b.val, j.val, 0, 0] : Fin 4 → Nat) a) :
    Host.gather gather_S64x8732x81_S64x8732x1x1_S64x8732x1_n_2_01_01_2_3_111 x idx (ix3 b j 0)
      = x (ix3 b j ⟨min (idx q).toInt.toNat 80, by omega⟩) := by
  unfold Host.gather
  congr 1
  generalize hd : gather_S64x8732x81_S64x8732x1x1_S64x8732x1_n_2_01_01_2_3_111 = d
  have hob : d.operandBatchingDims = [0, 1] := by rw [← hd]; rfl
  have hcs : d.collapsedSliceDims = [2] := by rw [← hd]; rfl
  have hsm : d.startIndexMap = [2] := by rw [← hd]; rfl
  funext a
  refine Fin.ext ?_
  show d.start (ix3 b j 0) idx a + d.batchCoord (ix3 b j 0) a + d.offCoord (ix3 b j 0) a = _
  have h01 : (a = 0 ∨ a = 1) ∨ a = 2 := by
    match a with
    | ⟨0, _⟩ => exact .inl (.inl rfl)
    | ⟨1, _⟩ => exact .inl (.inr rfl)
    | ⟨2, _⟩ => exact .inr rfl
  rcases h01 with h01 | rfl
  · have hm : a ∈ d.operandBatchingDims := by
      rw [hob]
      rcases h01 with rfl | rfl
      · exact List.mem_cons_self
      · exact List.mem_cons_of_mem _ List.mem_cons_self
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    subst hd
    rcases h01 with rfl | rfl <;> rfl
  · rw [GatherDims.batchCoord_eq_zero _ _ _ (fun h => by rw [hob] at h; simp at h),
      GatherDims.offCoord_eq_zero _ _ _ (fun h => ((GatherDims.mem_sKept _ _).mp h).1 (by rw [hcs]; exact List.mem_singleton.mpr rfl))]
    simp only [Nat.add_zero]
    unfold GatherDims.start
    rw [dif_pos (by rw [hsm]; exact List.mem_singleton.mpr rfl)]
    subst hd
    have hsi : ∀ k, gather_S64x8732x81_S64x8732x1x1_S64x8732x1_n_2_01_01_2_3_111.siIdx (ix3 b j 0) k = q := by
      intro k
      funext a
      refine Fin.ext ?_
      rw [hq a]
      match a with
      | ⟨0, _⟩ => rfl
      | ⟨1, _⟩ => rfl
      | ⟨2, _⟩ => rfl
      | ⟨3, _⟩ =>
        have := k.isLt
        match k with
        | ⟨0, _⟩ => rfl
    rw [hsi]
    rfl

end Cert.Stage
end
-- ==== Proof.RefTake.lean ====
/- The reference's two selections along the classes: a class below 81 is in range, so its entry is taken. -/
module

public import proofs.«01_k».proof.Proof.RefCount
public import proofs.«01_k».proof.Proof.Gather

@[expose] public section

set_option maxRecDepth 16384

noncomputable section

namespace Cert.Words

open Idealize.ShloMosaic

/-- A small class, wrapped as a negative index would be, is itself. -/
theorem wrap_eq (n : Nat) (h : n < 81) :
    Scalar.select (IntOp.cmpi .slt (BitVec.ofNat 32 n) 0#32) (IntOp.addi (BitVec.ofNat 32 n) 81#32) (BitVec.ofNat 32 n) = BitVec.ofNat 32 n := by
  interval_cases n <;> rfl

/-- A small class is in range. -/
theorem in_range (n : Nat) (h : n < 81) :
    IntOp.andi (IntOp.cmpi .sge (BitVec.ofNat 32 n) 0#32) (IntOp.cmpi .sle (BitVec.ofNat 32 n) 80#32) = 1#1 := by
  interval_cases n <;> rfl

theorem clamp_eq (n : Nat) (h : n < 81) : min (BitVec.ofNat 32 n).toInt.toNat 80 = n := by
  rw [WordCmp.toInt_ofNat_of_lt (w := 32) (by omega)]
  omega

theorem select_true {α : Type} (a c : α) : Scalar.select 1#1 a c = a := rfl

theorem fold_one {ι : Type} (s : Finset ι) : s.fold IntOp.andi 1#1 (fun _ => 1#1) = 1#1 := by
  classical
  induction s using Finset.induction_on with
  | empty => rfl
  | insert a s h ih => rw [Finset.fold_insert h, ih]; rfl

end Cert.Words

namespace Cert.Stage

open Cert.ReferenceIdeal Cert.ReferenceIdeal.Gen
open Idealize.ShloMosaic Idealize.ShloMosaic.TcCoe

/-- The wrapped index of each flattened row. -/
def wrap (t : IVec S558848x1 32) : IVec S558848x1x1 32 :=
  shapeCast S558848x1x1
    (select (cmpi .slt t (broadcastInDim S558848x1 ![] bcast_S_S558848x1 (constantI S_ 32 0#32)))
      (addi t (broadcastInDim S558848x1 ![] bcast_S_S558848x1 (constantI S_ 32 81#32))) t) shapeCasts_S558848x1_S558848x1x1

theorem wrap_at (t : IVec S558848x1 32) (r : Fin 558848) (n : Nat) (hn : n < 81) (ht : t (ix2 r 0) = BitVec.ofNat 32 n) :
    wrap t (ix3 r 0 0) = BitVec.ofNat 32 n := by
  have e : wrap t (ix3 r 0 0) = Scalar.select (IntOp.cmpi .slt (t (ix2 r 0)) 0#32) (IntOp.addi (t (ix2 r 0)) 81#32) (t (ix2 r 0)) := by
    pointwise [wrap]
  rw [e, ht, Words.wrap_eq n hn]

/-- The selection from given wrapped indices. -/
def takeAt (x : FVec Ideal S558848x81 .f32) (v5 : IVec S558848x1x1 32) : FVec Ideal S558848x1 .f32 :=
  select (Host.reduce IntOp.andi
      (andi (cmpi .sge v5 (broadcastInDim S558848x1x1 ![] bcast_S_S558848x1x1 (constantI S_ 32 0#32)))
        (cmpi .sle v5 (broadcastInDim S558848x1x1 ![0, 1, 2] bcast_S1x1x1_S558848x1x1_0_1_2
          (broadcastInDim S1x1x1 ![2] bcast_S1_S1x1x1_2 (constantI S1 32 80#32)))))
      (constantI S_ 1 1#1) reducesTo_S558848x1x1_S558848x1_d2 h_S_)
    (Host.gather gather_S558848x81_S558848x1x1_S558848x1_n_1_0_0_1_2_11 x v5)
    (broadcastInDim S558848x1 ![] bcast_S_S558848x1 (constant S_ .f32 0x7FC00000#32))

theorem take_at (x : FVec Ideal S558848x81 .f32) (t : IVec S558848x1 32) (r : Fin 558848) (n : Nat) (hn : n < 81)
    (ht : t (ix2 r 0) = BitVec.ofNat 32 n) : take x t (ix2 r 0) = x (ix2 r ⟨n, hn⟩) := by
  have e0 : take x t = takeAt x (wrap t) := rfl
  rw [e0]
  have hw := wrap_at t r n hn ht
  generalize wrap t = v at hw
  have e : takeAt x v (ix2 r 0) = Scalar.select (Finset.fold IntOp.andi 1#1
      (fun _ : Fin 1 => IntOp.andi (IntOp.cmpi .sge (v (ix3 r 0 0)) 0#32) (IntOp.cmpi .sle (v (ix3 r 0 0)) 80#32)) Finset.univ)
      (Host.gather gather_S558848x81_S558848x1x1_S558848x1_n_1_0_0_1_2_11 x v (ix2 r 0)) (Ideal.ofBits .f32 2143289344#32) := by
    pointwise [takeAt]
    simp only [Fin.isValue, Subsingleton.elim _ (0 : Fin 1)]
  rw [e, hw, Words.in_range n hn, Words.fold_one, Words.select_true, gather_flat]
  exact congrArg (fun c => x (ix2 r c)) (Fin.ext (by show min _ 80 = n; rw [hw, Words.clamp_eq n hn]))

/-- The wrapped index of each anchor. -/
def wrapLast (t : IVec S64x8732x1 32) : IVec S64x8732x1x1 32 :=
  shapeCast S64x8732x1x1
    (select (cmpi .slt t (broadcastInDim S64x8732x1 ![] bcast_S_S64x8732x1 (constantI S_ 32 0#32)))
      (addi t (broadcastInDim S64x8732x1 ![] bcast_S_S64x8732x1 (constantI S_ 32 81#32))) t) shapeCasts_S64x8732x1_S64x8732x1x1

theorem wrapLast_at (t : IVec S64x8732x1 32) (b : Fin 64) (j : Fin 8732) (n : Nat) (hn : n < 81)
    (ht : t (ix3 b j 0) = BitVec.ofNat 32 n) : wrapLast t (ix4 b j 0 0) = BitVec.ofNat 32 n := by
  have e : wrapLast t (ix4 b j 0 0)
      = Scalar.select (IntOp.cmpi .slt (t (ix3 b j 0)) 0#32) (IntOp.addi (t (ix3 b j 0)) 81#32) (t (ix3 b j 0)) := by
    pointwise [wrapLast]
  rw [e, ht, Words.wrap_eq n hn]

/-- The selection from given wrapped indices. -/
def takeLastAt (y : FVec Ideal S64x8732x81 .f32) (v5 : IVec S64x8732x1x1 32) : FVec Ideal S64x8732x1 .f32 :=
  select (Host.reduce IntOp.andi
      (andi (cmpi .sge v5 (broadcastInDim S64x8732x1x1 ![] bcast_S_S64x8732x1x1 (constantI S_ 32 0#32)))
        (cmpi .sle v5 (broadcastInDim S64x8732x1x1 ![0, 1, 2, 3] bcast_S1x1x1x1_S64x8732x1x1_0_1_2_3
          (broadcastInDim S1x1x1x1 ![3] bcast_S1_S1x1x1x1_3 (constantI S1 32 80#32)))))
      (constantI S_ 1 1#1) reducesTo_S64x8732x1x1_S64x8732x1_d3 h_S_)
    (Host.gather gather_S64x8732x81_S64x8732x1x1_S64x8732x1_n_2_01_01_2_3_111 y v5)
    (broadcastInDim S64x8732x1 ![] bcast_S_S64x8732x1 (constant S_ .f32 0x7FC00000#32))

theorem takeLast_at (y : FVec Ideal S64x8732x81 .f32) (t : IVec S64x8732x1 32) (b : Fin 64) (j : Fin 8732) (n : Nat) (hn : n < 81)
    (ht : t (ix3 b j 0) = BitVec.ofNat 32 n) : takeLast y t (ix3 b j 0) = y (ix3 b j ⟨n, hn⟩) := by
  have e0 : takeLast y t = takeLastAt y (wrapLast t) := rfl
  rw [e0]
  have hw := wrapLast_at t b j n hn ht
  generalize wrapLast t = v at hw
  have e : takeLastAt y v (ix3 b j 0) = Scalar.select (Finset.fold IntOp.andi 1#1
      (fun _ : Fin 1 => IntOp.andi (IntOp.cmpi .sge (v (ix4 b j 0 0)) 0#32) (IntOp.cmpi .sle (v (ix4 b j 0 0)) 80#32)) Finset.univ)
      (Host.gather gather_S64x8732x81_S64x8732x1x1_S64x8732x1_n_2_01_01_2_3_111 y v (ix3 b j 0)) (Ideal.ofBits .f32 2143289344#32) := by
    pointwise [takeLastAt]
    simp only [Fin.isValue, Subsingleton.elim _ (0 : Fin 1)]
  rw [e, hw, Words.in_range n hn, Words.fold_one, Words.select_true, gather_class y v b j (ix4 b j 0 0) (fun a => by
    match a with
    | ⟨0, _⟩ => rfl
    | ⟨1, _⟩ => rfl
    | ⟨2, _⟩ => rfl
    | ⟨3, _⟩ => rfl)]
  exact congrArg (fun c => y (ix3 b j c)) (Fin.ext (by show min _ 80 = n; rw [hw, Words.clamp_eq n hn]))

end Cert.Stage
end
-- ==== Proof.RefLoss.lean ====
/- The reference's two cross entropies at an anchor: both are the real cross entropy of its logits at its class, the one that ranks
   the anchors being zero at the positive ones. -/
module

public import proofs.«01_k».proof.Proof.RefTake

@[expose] public section

set_option maxRecDepth 16384

noncomputable section

namespace Cert.Floats

open Idealize.ShloMosaic

theorem ofBits_bot : (Ideal.ofBits .f32 (0xFF800000#32) : EReal) = ⊥ := by
  show Ideal.ieee 8 23 (0xFF800000#32) = _
  unfold Ideal.ieee
  simp

end Cert.Floats

namespace Cert.Stage

open Cert.ReferenceIdeal Cert.ReferenceIdeal.Gen
open Idealize.ShloMosaic Idealize.ShloMosaic.TcCoe

/-- The flattened row of an anchor. -/
def flat (b : Fin 64) (j : Fin 8732) : Fin 558848 := ⟨b.val * 8732 + j.val, by omega⟩

/-- The row of the batch a flattened row lies in. -/
def rowOf (r : Fin 558848) : Fin 64 := ⟨r.val / 8732, by omega⟩

/-- Its place in that row. -/
def placeOf (r : Fin 558848) : Fin 8732 := ⟨r.val % 8732, by omega⟩

theorem rowOf_flat (b : Fin 64) (j : Fin 8732) : rowOf (flat b j) = b := Fin.ext (by
  show (b.val * 8732 + j.val) / 8732 = b.val
  omega)

theorem placeOf_flat (b : Fin 64) (j : Fin 8732) : placeOf (flat b j) = j := Fin.ext (by
  show (b.val * 8732 + j.val) % 8732 = j.val
  omega)

theorem rows_at {α : Type} (x : S64x8732x81.Idx → α) (r : Fin 558848) (c : Fin 81) :
    shapeCast S558848x81 x shapeCasts_S64x8732x81_S558848x81 (ix2 r c) = x (ix3 (rowOf r) (placeOf r) c) := by
  pointwise []
  rfl

theorem column_at {α : Type} (t : S64x8732.Idx → α) (r : Fin 558848) :
    shapeCast S558848x1 t shapeCasts_S64x8732_S558848x1 (ix2 r 0) = t (ix2 (rowOf r) (placeOf r)) := by
  pointwise []
  rfl

theorem table_at {α : Type} (l : S558848x1.Idx → α) (b : Fin 64) (j : Fin 8732) :
    shapeCast S64x8732 l shapeCasts_S558848x1_S64x8732 (ix2 b j) = l (ix2 (flat b j) 0) := by
  pointwise []
  rfl

theorem top_real (x : FVec Ideal S558848x81 .f32) (f : Fin 558848 → Fin 81 → ℝ) (hx : ∀ r c, x (ix2 r c) = ((f r c : ℝ) : EReal)) :
    ∃ M : ℝ, (top x ix0 : EReal) = (M : EReal) := by
  have e : (top x ix0 : EReal) = Finset.fold max (Ideal.ofBits .f32 4286578688#32 : EReal)
      (fun k : Fin 558848 × Fin 81 => (x (ix2 k.1 k.2) : EReal)) Finset.univ := by
    pointwise [top]
  rw [e, Floats.ofBits_bot]
  simp only [hx]
  have hn : Nonempty (Fin 558848 × Fin 81) := ⟨(⟨0, by omega⟩, ⟨0, by omega⟩)⟩
  exact Loss.fold_max_real Finset.univ Finset.univ_nonempty (fun k : Fin 558848 × Fin 81 => f k.1 k.2)

/-- The exponentials of the shifted logits. -/
def shifted (x : FVec Ideal S558848x81 .f32) (u : FVec Ideal S_ .f32) : FVec Ideal S558848x81 .f32 :=
  Host.exp (subf x (broadcastInDim S558848x81 ![] bcast_S_S558848x81 u))

theorem shifted_at (x : FVec Ideal S558848x81 .f32) (u : FVec Ideal S_ .f32) (r : Fin 558848) (c : Fin 81) :
    (shifted x u (ix2 r c) : EReal) = Ideal.exp ((x (ix2 r c) : EReal) - (u ix0 : EReal)) := by
  pointwise [shifted]

theorem added_at (y : FVec Ideal S558848x81 .f32) (r : Fin 558848) :
    (Host.reduceAdd y (constant S_ .f32 0x00000000#32) reducesTo_S558848x81_S558848_d1 h_S_ (ix1 r) : EReal)
      = ∑ c, (y (ix2 r c) : EReal) := by
  pointwise []

theorem shifted_log_at (s : FVec Ideal S558848 .f32) (u : FVec Ideal S_ .f32) (r : Fin 558848) :
    (addf (Host.log (broadcastInDim S558848x1 ![0] bcast_S558848_S558848x1_0 s))
      (broadcastInDim S558848x1 ![] bcast_S_S558848x1 u) (ix2 r 0) : EReal)
      = Ideal.log (s (ix1 r) : EReal) + (u ix0 : EReal) := by
  pointwise []

theorem lse_at (x : FVec Ideal S558848x81 .f32) (f : Fin 558848 → Fin 81 → ℝ) (hx : ∀ r c, x (ix2 r c) = ((f r c : ℝ) : EReal))
    (r : Fin 558848) : (lse x (ix2 r 0) : EReal) = ((Real.log (∑ c, Real.exp (f r c)) : ℝ) : EReal) := by
  have e : lse x = addf (Host.log (broadcastInDim S558848x1 ![0] bcast_S558848_S558848x1_0
        (Host.reduceAdd (shifted x (top x)) (constant S_ .f32 0x00000000#32) reducesTo_S558848x81_S558848_d1 h_S_)))
      (broadcastInDim S558848x1 ![] bcast_S_S558848x1 (top x)) := rfl
  obtain ⟨M, hM⟩ := top_real x f hx
  rw [e, shifted_log_at, added_at]
  simp only [shifted_at]
  rw [hM]
  simp only [hx]
  rw [Loss.log_sum_exp (f r) 0 M, ← EReal.coe_add, sub_add_cancel]

variable (x : FVec Ideal S64x8732x81 .f32) (tg : Vec Ideal S64x8732 .i32)
  (ξ : Fin 64 → Fin 8732 → Fin 81 → ℝ) (κ : Fin 64 → Fin 8732 → Fin 81)
  (hx : ∀ b j c, x (ix3 b j c) = ((ξ b j c : ℝ) : EReal)) (hκ : ∀ b j, Words.cw (tg (ix2 b j)) = (κ b j).val)

include hx hκ in
/-- The loss that ranks the anchors. -/
theorem lossC_at (b : Fin 64) (j : Fin 8732) :
    (lossC x tg (ix2 b j) : EReal) = ((Second.vv tg (fun b j => Loss.loss (ξ b j) (κ b j)) b j : ℝ) : EReal) := by
  unfold lossC
  rw [table_at]
  have e : ∀ (p : IVec S558848x1 1) (l y : FVec Ideal S558848x1 .f32) (r : Fin 558848),
      (select p (broadcastInDim S558848x1 ![] bcast_S_S558848x1 (id (constant (F := Ideal) S_ .f32 0x00000000#32))) (subf l y) (ix2 r 0) : EReal)
        = Scalar.select (p (ix2 r 0)) 0 ((l (ix2 r 0) : EReal) - (y (ix2 r 0) : EReal)) := by
    intro p l y r
    pointwise [id]
  rw [e, column_at, rowOf_flat, placeOf_flat, pos_at,
    lse_at _ (fun r c => ξ (rowOf r) (placeOf r) c) (fun r c => by rw [rows_at, hx]),
    take_at _ _ _ (κ b j).val (κ b j).isLt (by rw [column_at, rowOf_flat, placeOf_flat, cls_at, hκ]),
    rows_at, rowOf_flat, placeOf_flat, hx, ← EReal.coe_sub]
  unfold Second.vv Loss.loss
  cases Second.P tg b j
  · rfl
  · rfl

theorem classMax_at (b : Fin 64) (j : Fin 8732) :
    ((Host.reduce FloatOps.maximumf x (constant S_ .f32 0xFF800000#32) reducesTo_S64x8732x81_S64x8732_d2 h_S_ : FVec Ideal S64x8732 .f32) (ix2 b j) : EReal)
      = Finset.fold max (Ideal.ofBits .f32 4286578688#32 : EReal) (fun k : Fin 81 => (x (ix3 b j k) : EReal)) Finset.univ := by
  pointwise []

theorem lowered_at (s : FVec Ideal S64x8732 .f32) (b : Fin 64) (j : Fin 8732) (c : Fin 81) :
    (subf x (broadcastInDim S64x8732x81 ![0, 1, 2] bcast_S64x8732x1_S64x8732x81_0_1_2
      (broadcastInDim S64x8732x1 ![0, 1] bcast_S64x8732_S64x8732x1_0_1
      (maximumf (broadcastInDim S64x8732 ![] bcast_S_S64x8732 (constant S_ .f32 0xFF800000#32)) s))) (ix3 b j c) : EReal)
      = (x (ix3 b j c) : EReal) - max (Ideal.ofBits .f32 4286578688#32 : EReal) (s (ix2 b j) : EReal) := by
  pointwise []

theorem low_at (b : Fin 64) (j : Fin 8732) (hx : ∀ b j c, x (ix3 b j c) = ((ξ b j c : ℝ) : EReal)) :
    ∃ M : ℝ, ∀ c, (low x (ix3 b j c) : EReal) = ((ξ b j c : ℝ) : EReal) - (M : EReal) := by
  obtain ⟨M, hM⟩ := Loss.fold_max_real Finset.univ Finset.univ_nonempty (fun k : Fin 81 => ξ b j k)
  refine ⟨M, fun c => ?_⟩
  unfold low
  rw [lowered_at, classMax_at, Floats.ofBits_bot]
  simp only [hx]
  rw [hM, max_eq_right bot_le]

/-- The log-probabilities from the shifted logits. -/
def logpOf (y : FVec Ideal S64x8732x81 .f32) : FVec Ideal S64x8732x81 .f32 :=
  subf y (broadcastInDim S64x8732x81 ![0, 1, 2] bcast_S64x8732x1_S64x8732x81_0_1_2
    (Host.log (broadcastInDim S64x8732x1 ![0, 1] bcast_S64x8732_S64x8732x1_0_1
      (Host.reduceAdd (Host.exp y) (constant S_ .f32 0x00000000#32) reducesTo_S64x8732x81_S64x8732_d2 h_S_))))

include hx hκ in
/-- The cross entropy. -/
theorem nll_at (b : Fin 64) (j : Fin 8732) :
    (nll x tg (ix2 b j) : EReal) = ((Loss.loss (ξ b j) (κ b j) : ℝ) : EReal) := by
  have e0 : logp x = logpOf (low x) := rfl
  unfold nll
  rw [e0]
  obtain ⟨M, hM⟩ := low_at x ξ b j hx
  generalize low x = y at hM
  have e1 : ∀ (l : FVec Ideal S64x8732x1 .f32), (Host.negf (shapeCast S64x8732 l shapeCasts_S64x8732x1_S64x8732) (ix2 b j) : EReal)
      = -(l (ix3 b j 0) : EReal) := by
    intro l
    pointwise []
  have e2 : broadcastInDim S64x8732x1 ![0, 1] bcast_S64x8732_S64x8732x1_0_1 (cls tg) (ix3 b j 0) = cls tg (ix2 b j) := by
    generalize cls tg = t
    pointwise []
  have e3 : ∀ c, (logpOf y (ix3 b j c) : EReal) = (y (ix3 b j c) : EReal) - Ideal.log (∑ k, Ideal.exp (y (ix3 b j k) : EReal)) := by
    intro c
    pointwise [logpOf]
  rw [e1, takeLast_at _ _ b j (κ b j).val (κ b j).isLt (by rw [e2, cls_at, hκ]), e3]
  simp only [hM]
  rw [Loss.log_sum_exp (ξ b j) 0 M, ← EReal.coe_sub, ← EReal.coe_sub, ← EReal.coe_neg]
  unfold Loss.loss
  refine congrArg Real.toEReal ?_
  ring

end Cert.Stage
end
-- ==== Proof.RefRank.lean ====
/- The reference's ranking of a row's anchors by loss: the first stable sort lists the anchors in descending order, the second one
   inverts that list. The anchors whose rank is below a count are that many, and none of the others has a larger loss. -/
module

public import proofs.«01_k».proof.Proof.RefLoss
public import Idealize.ShloMosaic.Lib.SortFacts

@[expose] public section

set_option maxRecDepth 16384

noncomputable section

namespace Cert.Stage

open Cert.ReferenceIdeal Cert.ReferenceIdeal.Gen
open Idealize.ShloMosaic Idealize.ShloMosaic.TcCoe

theorem along_at (b : Fin 64) (j k : Fin 8732) : Shape.Idx.along (s := S64x8732) (ix2 b j) 1 k = ix2 b k := by
  funext a
  match a with
  | ⟨0, _⟩ => rfl
  | ⟨1, _⟩ => rfl

/-- The second operand of a two-operand sort along a row. -/
theorem sort2_at {α β : Type} (cmp : α × β → α × β → BitVec 1) (x : S64x8732.Idx → α) (y : S64x8732.Idx → β) (b : Fin 64) (j : Fin 8732) :
    (Host.sort2 S64x8732 1 cmp x y).2 (ix2 b j)
      = y (ix2 b (sortedFrom (fun k k' : Fin 8732 => cmp (x (ix2 b k), y (ix2 b k)) (x (ix2 b k'), y (ix2 b k')) == 1#1) j)) := by
  have e : (Host.sort2 S64x8732 1 cmp x y).2 (ix2 b j)
      = y (Shape.Idx.along (s := S64x8732) (ix2 b j) 1 (sortedFrom (fun k k' : Fin 8732 =>
          cmp (x (Shape.Idx.along (s := S64x8732) (ix2 b j) 1 k), y (Shape.Idx.along (s := S64x8732) (ix2 b j) 1 k))
            (x (Shape.Idx.along (s := S64x8732) (ix2 b j) 1 k'), y (Shape.Idx.along (s := S64x8732) (ix2 b j) 1 k')) == 1#1) j)) := by
    unfold Host.sort2
    rw [dif_pos (show 1 < S64x8732.rank by decide)]
    rfl
  rw [e]
  simp only [along_at]
  exact congrArg y (along_at b j _)

theorem canon (z k a : EReal) : Scalar.select (Ideal.cmp .une a a) k (Scalar.select (Ideal.cmp .oeq a z) z a) = a := by
  have h1 : Ideal.cmp .une a a = 0#1 := by simp [Ideal.cmp]
  rw [h1]
  show Scalar.select (Ideal.cmp .oeq a z) z a = a
  by_cases h : a = z
  · have h2 : Ideal.cmp .oeq a z = 1#1 := by simp [Ideal.cmp, h]
    rw [h2]
    exact h.symm
  · have h2 : Ideal.cmp .oeq a z = 0#1 := by simp [Ideal.cmp, h]
    rw [h2]
    rfl

theorem cmp_olt (a c : EReal) : Ideal.cmp .olt a c = BitVec.ofBool (decide (a < c)) := rfl

theorem compare_at (a c : EReal) (p q : BitVec 32) :
    comparator_f32_i32_d1 (F := Ideal) (a, p) (c, q) = BitVec.ofBool (decide (a < c)) := by
  have e : ∀ z k : EReal, Ideal.cmp .olt (Scalar.select (Ideal.cmp .une a a) k (Scalar.select (Ideal.cmp .oeq a z) z a))
      (Scalar.select (Ideal.cmp .une c c) k (Scalar.select (Ideal.cmp .oeq c z) z c)) = BitVec.ofBool (decide (a < c)) := by
    intro z k
    rw [canon, canon, cmp_olt]
  exact e (Ideal.ofBits .f32 0x00000000#32) (Ideal.ofBits .f32 0x7FC00000#32)

theorem ofBool_beq (q : Bool) : (BitVec.ofBool q == 1#1) = q := by
  cases q <;> rfl

theorem iota_at (b : Fin 64) (j : Fin 8732) : iotaInDim S64x8732 32 1 (ix2 b j) = BitVec.ofNat 32 j.val := by
  pointwise []

variable (l : FVec Ideal S64x8732 .f32) (v : Fin 64 → Fin 8732 → ℝ) (hl : ∀ b j, (l (ix2 b j) : EReal) = ((v b j : ℝ) : EReal))

/-- The anchor at each place of the descending order. -/
def listed (v : Fin 8732 → ℝ) : Fin 8732 → Fin 8732 := sortedFrom fun k k' => decide (v k' < v k)

/-- The place of each anchor in that order. -/
def placed (v : Fin 8732 → ℝ) : Fin 8732 → Fin 8732 := sortedFrom fun k k' => decide (listed v k < listed v k')

include hl in
theorem order_at (b : Fin 64) (j : Fin 8732) : order l (ix2 b j) = BitVec.ofNat 32 (listed (v b) j).val := by
  unfold order
  rw [sort2_at, iota_at]
  have hn : ∀ k, (Host.negf l (ix2 b k) : EReal) = ((-v b k : ℝ) : EReal) := fun k => by
    have e : (Host.negf l (ix2 b k) : EReal) = -(l (ix2 b k) : EReal) := by pointwise []
    rw [e, hl, EReal.coe_neg]
  have hc : (fun k k' : Fin 8732 => comparator_f32_i32_d1 (F := Ideal) (Host.negf l (ix2 b k), iotaInDim S64x8732 32 1 (ix2 b k))
      (Host.negf l (ix2 b k'), iotaInDim S64x8732 32 1 (ix2 b k')) == 1#1) = fun k k' => decide (v b k' < v b k) := by
    funext k k'
    rw [compare_at, ofBool_beq, hn, hn]
    simp only [EReal.coe_lt_coe_iff, neg_lt_neg_iff]
  rw [hc]
  rfl

include hl in
theorem rank_at (b : Fin 64) (j : Fin 8732) : rank l (ix2 b j) = BitVec.ofNat 32 (placed (v b) j).val := by
  unfold rank
  rw [sort2_at, iota_at]
  have hc : (fun k k' : Fin 8732 => comparator_i32_i32_d1 (order l (ix2 b k), iotaInDim S64x8732 32 1 (ix2 b k))
      (order l (ix2 b k'), iotaInDim S64x8732 32 1 (ix2 b k')) == 1#1) = fun k k' => decide (listed (v b) k < listed (v b) k') := by
    funext k k'
    have e : ∀ p q r s : BitVec 32, comparator_i32_i32_d1 (p, q) (r, s) = BitVec.ofBool (decide (p.toInt < r.toInt)) := fun p q r s => by
      show BitVec.ofBool (p.slt r) = _
      rw [BitVec.slt_eq_decide]
    rw [e, ofBool_beq, order_at l v hl, order_at l v hl, WordCmp.toInt_ofNat_of_lt (w := 32) (by omega),
      WordCmp.toInt_ofNat_of_lt (w := 32) (by omega)]
    simp only [Nat.cast_lt, Fin.lt_def]
  rw [hc]
  rfl

/-- A list of the descending order, read at an anchor's place, is the anchor. -/
theorem listed_placed (v : Fin 8732 → ℝ) (j : Fin 8732) : listed v (placed v j) = j := by
  have hm : StrictMono fun j => listed v (placed v j) := fun i j hij => by
    have h := sortedFrom_noInversion (fun k k' => decide (listed v k < listed v k')) (fun k k' => decide (listed v k < listed v k'))
      (fun a c h => by simp only [decide_eq_true_eq, decide_eq_false_iff_not] at h ⊢; omega) (fun _ _ h => h)
      (fun a c d h h' => by simp only [decide_eq_false_iff_not] at h h' ⊢; omega) i j hij
    have h' : ¬ listed v (placed v j) < listed v (placed v i) := of_decide_eq_false h
    refine lt_of_le_of_ne (not_lt.mp h') fun e => hij.ne ?_
    exact sortedFrom_injective _ (sortedFrom_injective _ e)
  have hid := hm.range_inj (strictMono_id : StrictMono (id : Fin 8732 → Fin 8732))
  have hr : Set.range (fun j => listed v (placed v j)) = Set.range (id : Fin 8732 → Fin 8732) := by
    rw [Set.range_id]
    exact Set.range_eq_univ.mpr (Finite.injective_iff_surjective.mp hm.injective)
  exact congrFun (hid.mp hr) j

/-- The anchors of rank below a count. -/
def first (v : Fin 8732 → ℝ) (K : Nat) : Finset (Fin 8732) := Finset.univ.filter fun j => (placed v j).val < K

theorem first_card (v : Fin 8732 → ℝ) (K : Nat) (hK : K ≤ 8732) : (first v K).card = K := by
  have hb : Function.Bijective (placed v) := ⟨sortedFrom_injective _, sortedFrom_surjective _⟩
  have e : (first v K).card = (Finset.univ.filter fun j : Fin 8732 => j.val < K).card := by
    refine Finset.card_bij (fun j _ => placed v j) (fun j hj => ?_) (fun a _ c _ h => hb.1 h) (fun c hc => ?_)
    · exact Finset.mem_filter.mpr ⟨Finset.mem_univ _, (Finset.mem_filter.mp hj).2⟩
    · obtain ⟨a, rfl⟩ := hb.2 c
      exact ⟨a, Finset.mem_filter.mpr ⟨Finset.mem_univ _, (Finset.mem_filter.mp hc).2⟩, rfl⟩
  rw [e, Fin.card_filter_val_lt]
  omega

theorem first_top (v : Fin 8732 → ℝ) (K : Nat) : ∀ i ∈ first v K, ∀ j, j ∉ first v K → v j ≤ v i := by
  intro i hi j hj
  have hi' : (placed v i).val < K := (Finset.mem_filter.mp hi).2
  have hj' : ¬ (placed v j).val < K := fun h => hj (Finset.mem_filter.mpr ⟨Finset.mem_univ _, h⟩)
  have h := sortedFrom_noInversion (fun k k' => decide (v k' < v k)) (fun k k' => decide (v k' < v k))
    (fun a c h => by simp only [decide_eq_true_eq, decide_eq_false_iff_not] at h ⊢; exact not_lt.mpr h.le) (fun _ _ h => h)
    (fun a c d h h' => by simp only [decide_eq_false_iff_not] at h h' ⊢; exact not_lt.mpr ((not_lt.mp h).trans (not_lt.mp h')))
    (placed v i) (placed v j) (Fin.lt_def.mpr (by omega))
  have h' : ¬ v (listed v (placed v i)) < v (listed v (placed v j)) := of_decide_eq_false h
  rw [listed_placed, listed_placed] at h'
  exact not_lt.mp h'

end Cert.Stage
end
-- ==== Proof.RefMined.lean ====
/- The reference's mined anchors, the smallest loss among them and the largest among the others; and what the precondition says of
   them. -/
module

public import proofs.«01_k».proof.Proof.RefRank

@[expose] public section

set_option maxRecDepth 16384

noncomputable section

namespace Cert.Words

open Idealize.ShloMosaic

theorem slt_nat (n k : Nat) (hn : n < 2 ^ 31) (hk : k < 2 ^ 31) :
    IntOp.cmpi .slt (BitVec.ofNat 32 n) (BitVec.ofNat 32 k) = BitVec.ofBool (decide (n < k)) := by
  show BitVec.ofBool (BitVec.slt _ _) = _
  rw [BitVec.slt_eq_decide, WordCmp.toInt_ofNat_of_lt (w := 32) hn, WordCmp.toInt_ofNat_of_lt (w := 32) hk]
  simp only [Nat.cast_lt]

theorem sle_nat (n k : Nat) (hn : n < 2 ^ 31) (hk : k < 2 ^ 31) :
    IntOp.cmpi .sle (BitVec.ofNat 32 n) (BitVec.ofNat 32 k) = BitVec.ofBool (decide (n ≤ k)) := by
  show BitVec.ofBool (BitVec.sle _ _) = _
  rw [BitVec.sle_eq_decide, WordCmp.toInt_ofNat_of_lt (w := 32) hn, WordCmp.toInt_ofNat_of_lt (w := 32) hk]
  simp only [Nat.cast_le]

theorem sge_nat (n k : Nat) (hn : n < 2 ^ 31) (hk : k < 2 ^ 31) :
    IntOp.cmpi .sge (BitVec.ofNat 32 n) (BitVec.ofNat 32 k) = BitVec.ofBool (decide (k ≤ n)) := sle_nat k n hk hn

theorem subi_nat (n : Nat) (hn : n ≤ 8732) : IntOp.subi (8732#32) (BitVec.ofNat 32 n) = BitVec.ofNat 32 (8732 - n) := by
  show BitVec.ofNat 32 8732 - BitVec.ofNat 32 n = _
  apply BitVec.eq_of_toNat_eq
  rw [BitVec.toNat_sub, BitVec.toNat_ofNat, BitVec.toNat_ofNat, BitVec.toNat_ofNat, Nat.mod_eq_of_lt (show n < 2 ^ 32 by omega)]
  omega

theorem ofBool_one (q : Bool) (h : BitVec.ofBool q = 1#1) : q = true := by
  cases q
  · exact absurd h (by decide)
  · rfl

theorem ori_one (p q : BitVec 1) (h : IntOp.ori p q = 1#1) : p = 1#1 ∨ q = 1#1 := by
  revert p q
  decide

theorem ori_bool (p q : Bool) : IntOp.ori (BitVec.ofBool p) (BitVec.ofBool q) = BitVec.ofBool (p || q) := by
  cases p <;> cases q <;> rfl

end Cert.Words

namespace Cert.Floats

open Idealize.ShloMosaic

theorem ofBits_ulp : (Ideal.ofBits .f32 (0x34000000#32) : EReal) = ((2⁻¹ ^ 23 : ℝ) : EReal) := by
  rw [ofBits_eq _ (by decide)]
  have : (0x34000000#32).toNat = 872415232 := by decide
  rw [this]
  unfold val
  norm_num

theorem ofBits_tiny : (Ideal.ofBits .f32 (0x00800000#32) : EReal) = ((2⁻¹ ^ 126 : ℝ) : EReal) := by
  rw [ofBits_eq _ (by decide)]
  have : (0x00800000#32).toNat = 8388608 := by decide
  rw [this]
  unfold val
  norm_num

theorem ofBits_bound : (Ideal.ofBits .f32 (0x71800000#32) : EReal) = ((2 ^ 100 : ℝ) : EReal) := by
  rw [ofBits_eq _ (by decide)]
  have : (0x71800000#32).toNat = 1904214016 := by decide
  rw [this]
  unfold val
  norm_num

theorem ofBits_zero : (Ideal.ofBits .f32 (0x00000000#32) : EReal) = 0 := by
  rw [ofBits_eq _ (by decide)]
  have : (0x00000000#32).toNat = 0 := by decide
  rw [this, val_zero, EReal.coe_zero]

end Cert.Floats

namespace Cert.Stage

open Cert.ReferenceIdeal Cert.ReferenceIdeal.Gen
open Idealize.ShloMosaic Idealize.ShloMosaic.TcCoe

variable (x : FVec Ideal S64x8732x81 .f32) (tg : Vec Ideal S64x8732 .i32)
  (ξ : Fin 64 → Fin 8732 → Fin 81 → ℝ) (κ : Fin 64 → Fin 8732 → Fin 81)

/-- The cross entropy of each anchor. -/
def ce (b : Fin 64) (j : Fin 8732) : ℝ := Loss.loss (ξ b j) (κ b j)

/-- The loss that ranks each anchor. -/
def vc (b : Fin 64) (j : Fin 8732) : ℝ := Second.vv tg (ce ξ κ) b j

/-- The mined anchors of a row. -/
def chosen (b : Fin 64) : Finset (Fin 8732) := first (vc tg ξ κ b) (Second.kk tg b)

variable (hx : ∀ b j c, x (ix3 b j c) = ((ξ b j c : ℝ) : EReal)) (hκ : ∀ b j, Words.cw (tg (ix2 b j)) = (κ b j).val)

theorem kk_le (b : Fin 64) : Second.kk tg b ≤ 8731 := by
  unfold Second.kk
  omega

theorem below_at (r : IVec S64x8732 32) (n : IVec S64x1 32) (b : Fin 64) (j : Fin 8732) :
    cmpi .slt r (broadcastInDim S64x8732 ![0, 1] bcast_S64x1_S64x8732_0_1 n) (ix2 b j) = IntOp.cmpi .slt (r (ix2 b j)) (n (ix2 b 0)) := by
  pointwise []

include hx hκ in
theorem mined_at (b : Fin 64) (j : Fin 8732) : mined x tg (ix2 b j) = BitVec.ofBool (decide (j ∈ chosen tg ξ κ b)) := by
  have := kk_le tg b
  unfold mined
  rw [below_at, rank_at (lossC x tg) (fun b j => vc tg ξ κ b j) (fun b j => lossC_at x tg ξ κ hx hκ b j), mine_at,
    Words.slt_nat _ _ (by omega) (by omega)]
  refine congrArg BitVec.ofBool ?_
  rw [decide_eq_decide]
  unfold chosen first
  rw [Finset.mem_filter]
  exact ⟨fun h => ⟨Finset.mem_univ _, h⟩, fun h => h.2⟩

theorem leastOf_at (m : IVec S64x8732 1) (l : FVec Ideal S64x8732 .f32) (b : Fin 64) :
    ((broadcastInDim S64x1 ![0] bcast_S64_S64x1_0 (Host.reduce FloatOps.minimumf
      (select m l (broadcastInDim S64x8732 ![] bcast_S_S64x8732 (id (constant S_ .f32 0x7F800000#32))))
      (constant S_ .f32 0x7F800000#32) reducesTo_S64x8732_S64_d1 h_S_) : FVec Ideal S64x1 .f32) (ix2 b 0) : EReal)
      = Finset.fold min (Ideal.ofBits .f32 0x7F800000#32 : EReal)
        (fun j => (Scalar.select (m (ix2 b j)) (l (ix2 b j) : EReal) (Ideal.ofBits .f32 0x7F800000#32 : EReal) : EReal)) Finset.univ := by
  pointwise [id]

theorem largestOf_at (m : IVec S64x8732 1) (l : FVec Ideal S64x8732 .f32) (b : Fin 64) :
    ((broadcastInDim S64x1 ![0] bcast_S64_S64x1_0 (Host.reduce FloatOps.maximumf
      (select m (broadcastInDim S64x8732 ![] bcast_S_S64x8732 (id (constant S_ .f32 0x00000000#32))) l)
      (constant S_ .f32 0xFF800000#32) reducesTo_S64x8732_S64_d1 h_S_) : FVec Ideal S64x1 .f32) (ix2 b 0) : EReal)
      = Finset.fold max (Ideal.ofBits .f32 0xFF800000#32 : EReal)
        (fun j => (Scalar.select (m (ix2 b j)) (Ideal.ofBits .f32 0x00000000#32 : EReal) (l (ix2 b j) : EReal) : EReal)) Finset.univ := by
  pointwise [id]

theorem select_bool (q : Bool) (a c : EReal) : Scalar.select (BitVec.ofBool q) a c = if q then a else c := by
  cases q <;> rfl

theorem vc_nonneg (b : Fin 64) (j : Fin 8732) : 0 ≤ vc tg ξ κ b j :=
  Second.vv_nonneg tg (ce ξ κ) (fun _ _ => Loss.loss_nonneg _ _) b j

include hx hκ in
/-- The smallest mined loss is that of a mined anchor. -/
theorem least_at (b : Fin 64) (h : (chosen tg ξ κ b).Nonempty) :
    ∃ i₀ ∈ chosen tg ξ κ b, (∀ i ∈ chosen tg ξ κ b, vc tg ξ κ b i₀ ≤ vc tg ξ κ b i)
      ∧ (least x tg (ix2 b 0) : EReal) = ((vc tg ξ κ b i₀ : ℝ) : EReal) := by
  obtain ⟨i₀, hi₀, hmin⟩ := Finset.exists_min_image (chosen tg ξ κ b) (vc tg ξ κ b) h
  refine ⟨i₀, hi₀, hmin, ?_⟩
  unfold least
  rw [leastOf_at, Floats.ofBits_top]
  have hf : ∀ j, Scalar.select (mined x tg (ix2 b j)) (lossC x tg (ix2 b j) : EReal) ⊤
      = if j ∈ chosen tg ξ κ b then ((vc tg ξ κ b j : ℝ) : EReal) else ⊤ := fun j => by
    rw [mined_at x tg ξ κ hx hκ, select_bool, lossC_at x tg ξ κ hx hκ]
    simp only [decide_eq_true_eq]
    rfl
  simp only [hf]
  refine le_antisymm ?_ ?_
  · refine Finset.fold_min_le _ |>.mpr (.inr ⟨i₀, Finset.mem_univ _, ?_⟩)
    rw [if_pos hi₀]
  · refine Finset.le_fold_min _ |>.mpr ⟨le_top, fun j _ => ?_⟩
    split_ifs with hj
    · exact EReal.coe_le_coe_iff.mpr (hmin j hj)
    · exact le_top

include hx hκ in
/-- The largest other loss is a real number no other loss exceeds. -/
theorem largest_at (b : Fin 64) (B : ℝ) (hB : 0 ≤ B) (hv : ∀ j, vc tg ξ κ b j ≤ B) :
    ∃ c : ℝ, 0 ≤ c ∧ c ≤ B ∧ (∀ j, j ∉ chosen tg ξ κ b → vc tg ξ κ b j ≤ c) ∧ (largest x tg (ix2 b 0) : EReal) = ((c : ℝ) : EReal) := by
  unfold largest
  rw [largestOf_at, Floats.ofBits_bot, Floats.ofBits_zero]
  have hf : ∀ j, Scalar.select (mined x tg (ix2 b j)) 0 (lossC x tg (ix2 b j) : EReal)
      = ((if j ∈ chosen tg ξ κ b then 0 else vc tg ξ κ b j : ℝ) : EReal) := fun j => by
    rw [mined_at x tg ξ κ hx hκ, select_bool, lossC_at x tg ξ κ hx hκ]
    simp only [decide_eq_true_eq]
    split_ifs <;> rfl
  simp only [hf]
  obtain ⟨c, hc⟩ := Loss.fold_max_real Finset.univ Finset.univ_nonempty
    (fun j => if j ∈ chosen tg ξ κ b then 0 else vc tg ξ κ b j)
  have hle : ∀ j, (if j ∈ chosen tg ξ κ b then 0 else vc tg ξ κ b j) ≤ c := fun j => by
    have h : (((if j ∈ chosen tg ξ κ b then 0 else vc tg ξ κ b j : ℝ) : ℝ) : EReal) ≤ (c : EReal) := by
      rw [← hc]
      exact (Finset.le_fold_max _).mpr (.inr ⟨j, Finset.mem_univ _, le_rfl⟩)
    exact EReal.coe_le_coe_iff.mp h
  have h0 : ∀ j, 0 ≤ (if j ∈ chosen tg ξ κ b then 0 else vc tg ξ κ b j) := fun j => by
    split_ifs
    · exact le_rfl
    · exact vc_nonneg tg ξ κ b j
  refine ⟨c, (h0 ⟨0, by omega⟩).trans (hle _), ?_, fun j hj => ?_, hc⟩
  · have h : (c : EReal) ≤ (B : EReal) := by
      rw [← hc]
      refine (Finset.fold_max_le _).mpr ⟨bot_le, fun j _ => EReal.coe_le_coe_iff.mpr ?_⟩
      split_ifs
      · exact hB
      · exact hv j
    exact EReal.coe_le_coe_iff.mp h
  · have := hle j
    rwa [if_neg hj] at this

end Cert.Stage
end
-- ==== Proof.RefValue.lean ====
/- The reference's two results: the cross entropies of the positive and the mined anchors, and the smooth L1 distances of the
   positive anchors, each added up and divided by the normalizer. -/
module

public import proofs.«01_k».proof.Proof.RefMined

@[expose] public section

set_option maxRecDepth 16384

noncomputable section

namespace Cert.Stage

open Cert.ReferenceIdeal Cert.ReferenceIdeal.Gen
open Idealize.ShloMosaic Idealize.ShloMosaic.TcCoe

theorem confOf_at (n : FVec Ideal S64x8732 .f32) (p : IVec S64x8732 1) (d : FVec Ideal S_ .f32) :
    (Host.divf (Host.reduceAdd (mulf n (uitofp .f32 p)) (constant S_ .f32 0x00000000#32) reducesTo_S64x8732_S_d0_1 h_S_) d ix0 : EReal)
      = Ideal.div (∑ b, ∑ j, (n (ix2 b j) : EReal) * FloatOps.uitofp (F := Ideal) .f32 (p (ix2 b j))) (d ix0 : EReal) := by
  pointwise []

variable (x : FVec Ideal S64x8732x81 .f32) (tg : Vec Ideal S64x8732 .i32)
  (ξ : Fin 64 → Fin 8732 → Fin 81 → ℝ) (κ : Fin 64 → Fin 8732 → Fin 81)
  (hx : ∀ b j c, x (ix3 b j c) = ((ξ b j c : ℝ) : EReal)) (hκ : ∀ b j, Words.cw (tg (ix2 b j)) = (κ b j).val)

include hx hκ in
/-- The first result. -/
theorem conf_at : (conf x tg ix0 : EReal)
    = Ideal.div ((∑ b, (∑ j, (if Second.P tg b j then ce ξ κ b j else 0) + ∑ j ∈ chosen tg ξ κ b, vc tg ξ κ b j) : ℝ) : EReal)
      (Second.den tg) := by
  unfold conf
  rw [confOf_at, norm_at]
  have hf : ∀ b j, (nll x tg (ix2 b j) : EReal) * FloatOps.uitofp (F := Ideal) .f32 (ori (pos tg) (mined x tg) (ix2 b j))
      = (((if Second.P tg b j then ce ξ κ b j else 0) + (if j ∈ chosen tg ξ κ b then vc tg ξ κ b j else 0) : ℝ) : EReal) := fun b j => by
    have e : ori (pos tg) (mined x tg) (ix2 b j) = IntOp.ori (pos tg (ix2 b j)) (mined x tg (ix2 b j)) := rfl
    rw [e, pos_at, mined_at x tg ξ κ hx hκ, Words.ori_bool, Words.uindicator, nll_at x tg ξ κ hx hκ]
    unfold vc Second.vv
    cases Second.P tg b j
    · by_cases h : j ∈ chosen tg ξ κ b
      · simp [h, ce]
      · simp [h]
    · simp [ce]
  simp only [hf]
  refine congrArg (fun s => Ideal.div s (Second.den tg)) ?_
  simp only [Loss.coe_sum]
  refine congrArg Real.toEReal (Finset.sum_congr rfl fun b _ => ?_)
  rw [Finset.sum_add_distrib, Finset.sum_ite_mem, Finset.univ_inter]

/-- The smooth L1 distance of one coordinate. -/
def sm (a c : EReal) : EReal :=
  if (FloatOps.absf (F := Ideal) (φ := .f32) (a - c) : EReal) < 1 then (Ideal.ofBits .f32 1056964608#32 : EReal) * (a - c) * (a - c)
  else (FloatOps.absf (F := Ideal) (φ := .f32) (a - c) : EReal) - (Ideal.ofBits .f32 1056964608#32 : EReal)

theorem smooth_at (p q : FVec Ideal S64x8732x4 .f32) (b : Fin 64) (j : Fin 8732) (c : Fin 4) :
    (smooth p q (ix3 b j c) : EReal) = sm (p (ix3 b j c)) (q (ix3 b j c)) := by
  unfold sm
  pointwise [smooth]

theorem locOf_at (s : FVec Ideal S64x8732x4 .f32) (p : IVec S64x8732 1) (d : FVec Ideal S_ .f32) :
    (Host.divf (Host.reduceAdd (mulf s (broadcastInDim S64x8732x4 ![0, 1, 2] bcast_S64x8732x1_S64x8732x4_0_1_2
      (uitofp .f32 (broadcastInDim S64x8732x1 ![0, 1] bcast_S64x8732_S64x8732x1_0_1 p))))
    (constant S_ .f32 0x00000000#32) reducesTo_S64x8732x4_S_d0_1_2 h_S_) d ix0 : EReal)
      = Ideal.div (∑ b, ∑ j, ∑ c, (s (ix3 b j c) : EReal) * FloatOps.uitofp (F := Ideal) .f32 (p (ix2 b j))) (d ix0 : EReal) := by
  pointwise []

/-- The second result. -/
theorem loc_at (p q : FVec Ideal S64x8732x4 .f32) : (loc p q tg ix0 : EReal)
    = Ideal.div (∑ b, ∑ j, if Second.P tg b j then ∑ c, sm (p (ix3 b j c)) (q (ix3 b j c)) else 0) (Second.den tg) := by
  unfold loc
  rw [locOf_at, norm_at]
  refine congrArg (fun s => Ideal.div s (Second.den tg)) ?_
  refine Finset.sum_congr rfl fun b _ => Finset.sum_congr rfl fun j _ => ?_
  rw [pos_at, Words.uindicator]
  simp only [smooth_at]
  cases Second.P tg b j
  · simp
  · simp

end Cert.Stage
end
-- ==== Proof.FirstLoss.lean ====
/- The first kernel's losses: a row of the block it writes is the real cross entropy of the row's logits at the row's class. -/
module

public import proofs.«01_k».proof.Proof.FirstArrays
public import proofs.«01_k».proof.Proof.RefValue

@[expose] public section

set_option maxRecDepth 16384

noncomputable section

namespace Cert.First

open Cert.KernelIdeal Cert.KernelIdeal.Gen Cert.KernelIdeal.Own
open Idealize.ShloMosaic Idealize.ShloMosaic.TcCoe

variable (x : Vec Ideal S4096x81 .f32) (tg : Vec Ideal S4096x1 .i32)

/-- The largest logit of each row. -/
def peak : FVec Ideal S4096x1 .f32 :=
  shapeCast S4096x1 (multiReduction .maximumf [1] S4096 x 0xFF800000#32 reduces_S4096x81_S4096 (.inl rfl) rfl) shapeCasts_S4096_S4096x1

/-- The sum of each row. -/
def total : FVec Ideal S4096x1 .f32 :=
  shapeCast S4096x1 (multiReduction .add [1] S4096 (x : FVec Ideal S4096x81 .f32) 0x00000000#32 reduces_S4096x81_S4096 (.inl rfl) rfl) shapeCasts_S4096_S4096x1

/-- The logits with every column but the class's emptied. -/
def picked (t : IVec S4096x1 32) : FVec Ideal S4096x81 .f32 :=
  select (cmpi .eq (iota .tc S4096x81 32 [1] iota_S4096x81_d1_w32) (broadcastTo S4096x81 t broadcasts_S4096x1_S4096x81)) x
    (broadcast S4096x81 (Scalar.ofBits .f32 0x00000000#32))

/-- The exponentials of the shifted logits. -/
def raised (u : FVec Ideal S4096x1 .f32) : FVec Ideal S4096x81 .f32 :=
  exp (subf x (broadcastTo S4096x81 u broadcasts_S4096x1_S4096x81))

theorem peak_at (j : Fin 4096) :
    (peak x (ix2 j 0) : EReal) = Finset.fold max (Ideal.ofBits .f32 4286578688#32 : EReal) (fun c : Fin 81 => (x (ix2 j c) : EReal)) Finset.univ := by
  pointwise [peak]

theorem total_at (j : Fin 4096) : (total x (ix2 j 0) : EReal) = ∑ c : Fin 81, (x (ix2 j c) : EReal) := by
  pointwise [total]

theorem picked_at (t : IVec S4096x1 32) (j : Fin 4096) (c : Fin 81) :
    (picked x t (ix2 j c) : EReal) = Scalar.select (IntOp.cmpi .eq (BitVec.ofNat 32 c.val) (t (ix2 j 0))) (x (ix2 j c) : EReal) 0 := by
  pointwise [picked]

theorem raised_at (u : FVec Ideal S4096x1 .f32) (j : Fin 4096) (c : Fin 81) :
    (raised x u (ix2 j c) : EReal) = Ideal.exp ((x (ix2 j c) : EReal) - (u (ix2 j 0) : EReal)) := by
  pointwise [raised]

theorem pay3_at (j : Fin 4096) : k0_pay3 (F := Ideal) tg (ix2 j 0) = IntOp.maxsi (tg (ix2 j 0)) 0#32 := by
  pointwise [k0_pay3]

theorem joined_at (s u w : FVec Ideal S4096x1 .f32) (j : Fin 4096) :
    (subf (addf (log s) u) w (ix2 j 0) : EReal) = Ideal.log (s (ix2 j 0) : EReal) + (u (ix2 j 0) : EReal) - (w (ix2 j 0) : EReal) := by
  pointwise []

theorem cast_self (y : Vec Ideal S4096x81 .f32) : shapeCast S4096x81 y shapeCasts_S4096x81_S4096x81 = y :=
  shapeCast_self y _

theorem pay4_eq : k0_pay4 x tg = subf (addf (log (total (raised x (peak x)))) (peak x)) (total (picked x (k0_pay3 (F := Ideal) tg))) := by
  unfold k0_pay4
  rw [cast_self]
  rfl

/-- A class's column, among columns numbered below the number of classes. -/
theorem pick_word (c k : Fin 81) (a : EReal) :
    Scalar.select (IntOp.cmpi .eq (BitVec.ofNat 32 c.val) (BitVec.ofNat 32 k.val)) a 0 = if c = k then a else 0 := by
  have h : IntOp.cmpi .eq (BitVec.ofNat 32 c.val) (BitVec.ofNat 32 k.val) = BitVec.ofBool (decide (c = k)) := by
    show BitVec.ofBool (BitVec.ofNat 32 c.val == BitVec.ofNat 32 k.val) = _
    refine congrArg BitVec.ofBool ?_
    rw [Bool.eq_iff_iff, beq_iff_eq, decide_eq_true_iff]
    constructor
    · intro e
      have e2 := congrArg BitVec.toNat e
      rw [BitVec.toNat_ofNat, BitVec.toNat_ofNat] at e2
      exact Fin.ext (by omega)
    · intro e; rw [e]
  rw [h, Stage.select_bool]
  simp only [decide_eq_true_eq]

/-- The written loss of a row with real logits and an admissible class. -/
theorem loss_at (j : Fin 4096) (f : Fin 81 → ℝ) (k : Fin 81) (hx : ∀ c, x (ix2 j c) = ((f c : ℝ) : EReal))
    (hk : Words.cw (tg (ix2 j 0)) = k.val) :
    (k0_pay4 x tg (ix2 j 0) : EReal) = ((Loss.loss f k : ℝ) : EReal) := by
  obtain ⟨M, hM⟩ := Loss.fold_max_real Finset.univ Finset.univ_nonempty f
  have hp : (peak x (ix2 j 0) : EReal) = (M : EReal) := by
    rw [peak_at, Floats.ofBits_bot]
    simp only [hx]
    exact hM
  have hs : (total (picked x (k0_pay3 (F := Ideal) tg)) (ix2 j 0) : EReal) = ((f k : ℝ) : EReal) := by
    rw [total_at]
    simp only [picked_at, pay3_at, Words.maxsi_eq, hk, hx, pick_word]
    rw [Finset.sum_ite_eq' Finset.univ k, if_pos (Finset.mem_univ k)]
  rw [pay4_eq, joined_at, hp, hs, total_at]
  simp only [raised_at, hp, hx]
  rw [Loss.log_sum_exp f k M, ← EReal.coe_add, sub_add_cancel, ← EReal.coe_sub]
  rfl

end Cert.First
-- ==== Proof.FirstSum.lean ====
/- The first kernel's partial sum: a point adds the smoothed distances of the positive rows of its block, rows beyond the
   array's end counting nothing, so that the points together add up every row once. -/
module

public import proofs.«01_k».proof.Proof.FirstArrays
public import proofs.«01_k».proof.Proof.RefValue

@[expose] public section

set_option maxRecDepth 16384

noncomputable section

namespace Cert.First

open Cert.KernelIdeal Cert.KernelIdeal.Gen Cert.KernelIdeal.Own
open Idealize.ShloMosaic Idealize.ShloMosaic.TcCoe

theorem pay5_at (p q : Vec Ideal S4096x4 .f32) (j : Fin 4096) (c : Fin 4) :
    (k0_pay5 p q (ix2 j c) : EReal) = Stage.sm (p (ix2 j c)) (q (ix2 j c)) := by
  unfold Stage.sm
  pointwise [k0_pay5]

theorem sign_at (tg : Vec Ideal S4096x1 .i32) (j : Fin 4096) : k0_pay3 (F := Ideal) tg (ix2 j 0) = IntOp.maxsi (tg (ix2 j 0)) 0#32 := by
  pointwise [k0_pay3]

theorem pay1_at (w : BitVec 32) (t : IVec S4096x1 32) (s : FVec Ideal S4096x4 .f32) (i : IVec S4096x1 32) :
    (k0_pay1 w t s i 4096#32 (ix2 0 0) : EReal)
      = ∑ j : Fin 4096, Scalar.select (IntOp.andi (IntOp.cmpi .slt (IntOp.addi (i (ix2 j 0)) (Scalar.muli w 4096#32)) 558848#32)
          (IntOp.cmpi .sgt (t (ix2 j 0)) 0#32)) (∑ c : Fin 4, (s (ix2 j c) : EReal)) 0 := by
  pointwise [k0_pay1]
  simp only [Finset.sum_const, Finset.card_univ, Fintype.card_fin, one_smul]

theorem iota_at (j : Fin 4096) : iota .tc S4096x1 32 [0] iota_S4096x1_d0_w32 (ix2 j 0) = BitVec.ofNat 32 j.val := by
  pointwise []

/-- The kernel's test that a row lies inside the array. -/
theorem inside (t : ℕ) (ht : t < 137) (j : Fin 4096) :
    IntOp.cmpi .slt (IntOp.addi (BitVec.ofNat 32 j.val) (Scalar.muli (BitVec.ofNat 32 t) 4096#32)) 558848#32
      = BitVec.ofBool (decide (t * 4096 + j.val < 558848)) := by
  have e : IntOp.addi (BitVec.ofNat 32 j.val) (Scalar.muli (BitVec.ofNat 32 t) 4096#32) = BitVec.ofNat 32 (t * 4096 + j.val) := by
    show BitVec.ofNat 32 j.val + BitVec.ofNat 32 t * BitVec.ofNat 32 4096 = _
    rw [← BitVec.ofNat_mul, ← BitVec.ofNat_add, Nat.add_comm]
  rw [e]
  exact Words.slt_nat _ 558848 (by omega) (by omega)

theorem both (a b : Bool) (y : EReal) :
    Scalar.select (IntOp.andi (BitVec.ofBool a) (BitVec.ofBool b)) y 0 = if a then (if b then y else 0) else 0 := by
  cases a <;> cases b <;> rfl

variable (V : Valuation τ sig (Elt Ideal))

/-- What a row counts. -/
def rowTerm (r : Fin 558848) : EReal :=
  if Words.isPos ((V (Proc.devRef .tc main_v1) : Vec Ideal S558848x1 .i32) (ix2 r 0)) then
    ∑ c : Fin 4, Stage.sm ((V (Proc.devRef .tc main_v2) : Vec Ideal S558848x4 .f32) (ix2 r c)) ((V (Proc.devRef .tc main_v3) : Vec Ideal S558848x4 .f32) (ix2 r c))
  else 0

/-- The same by the row's number, zero beyond the last row. -/
def rowTermN (n : ℕ) : EReal := if h : n < 558848 then rowTerm V ⟨n, h⟩ else 0

/-- What a point adds. -/
theorem point_at (t : Fin cfg0.N) (d1 d2 d3) :
    (k0_pay1 (F := Ideal) (BitVec.ofNat 32 ((grid0.coords t) 0).val) (k0_pay3 (blk0 V 1 t d1))
      (k0_pay5 (blk0 V 2 t d2) (blk0 V 3 t d3)) (iota .tc S4096x1 32 [0] iota_S4096x1_d0_w32) 4096#32 (ix2 0 0) : EReal)
      = ∑ j ∈ Finset.range 4096, rowTermN V (t.val * 4096 + j) := by
  have ht : t.val < 137 := lt_of_lt_of_eq t.isLt N_0
  rw [pay1_at, Finset.sum_range]
  refine Finset.sum_congr rfl fun j _ => ?_
  rw [iota_at, coord_val, inside _ ht, sign_at, Words.pos_kernel, both]
  unfold rowTermN
  by_cases h : t.val * 4096 + j.val < 558848
  · rw [decide_eq_true h, if_pos rfl, dif_pos h, blk0_1_at V t d1 j 0 h]
    simp only [pay5_at, blk0_2_at V t d2 j _ h, blk0_3_at V t d3 j _ h]
    rfl
  · rw [decide_eq_false h, if_neg Bool.false_ne_true, dif_neg h]

/-- Runs of equal length, end to end. -/
theorem sum_runs (g : ℕ → EReal) (k : ℕ) : ∀ n, ∑ t ∈ Finset.range n, ∑ j ∈ Finset.range k, g (t * k + j) = ∑ i ∈ Finset.range (n * k), g i := by
  intro n
  induction n with
  | zero => simp
  | succ n ih => rw [Finset.sum_range_succ, ih, Nat.succ_mul, Finset.sum_range_add]

/-- All the points' additions together. -/
theorem all_points : ∑ t ∈ Finset.range 137, ∑ j ∈ Finset.range 4096, rowTermN V (t * 4096 + j) = ∑ i ∈ Finset.range 558848, rowTermN V i := by
  rw [sum_runs (rowTermN V)]
  have e : 137 * 4096 = 558848 + 2304 := by norm_num
  rw [e, Finset.sum_range_add]
  rw [show (∑ x ∈ Finset.range 2304, rowTermN V (558848 + x)) = 0 from Finset.sum_eq_zero fun x _ => by
    unfold rowTermN; rw [dif_neg (by omega)], add_zero]

/-- The rows by batch row and place. -/
theorem rows_sum : ∑ i ∈ Finset.range 558848, rowTermN V i = ∑ b : Fin 64, ∑ j : Fin 8732, rowTerm V (Stage.flat b j) := by
  have e : 558848 = 64 * 8732 := by norm_num
  rw [e, ← sum_runs (rowTermN V), Finset.sum_range]
  refine Finset.sum_congr rfl fun b _ => ?_
  rw [Finset.sum_range]
  refine Finset.sum_congr rfl fun j _ => ?_
  unfold rowTermN
  rw [dif_pos (by omega)]
  rfl

end Cert.First
-- ==== Proof.FirstValue.lean ====
/- The two arrays the first call leaves, in terms of the arrays it reads. -/
module

public import proofs.«01_k».proof.Proof.FirstArrays
public import proofs.«01_k».proof.Proof.FirstLoss
public import proofs.«01_k».proof.Proof.FirstSum

@[expose] public section

set_option maxRecDepth 16384

noncomputable section

namespace Cert.First

open Cert.KernelIdeal Cert.KernelIdeal.Gen Cert.KernelIdeal.Own
open Idealize.ShloMosaic Idealize.ShloMosaic.TcCoe
open Idealize.SL Idealize.SL.RA
open Idealize.ShloMosaic.Pipeline

variable {U : Type} [URA U]
variable (V : Valuation τ sig (Elt Ideal)) (c : Dev nD)

/-- Each row of the first array is the loss of its row of logits at its class. -/
theorem loss_value (G : Buf (Elt Ideal) ((cfg0.win 4).arr.view.loc (c.tc : Thread nD τ)))
    (h : (rdat0 (U := U) V c).ArrAt 4 cfg0.N G) (f : Fin 558848 → Fin 81 → ℝ) (k : Fin 558848 → Fin 81)
    (hx : ∀ r a, ((V (Proc.devRef .tc main_v0) : Vec Ideal S558848x81 .f32) (ix2 r a) : EReal) = ((f r a : ℝ) : EReal))
    (hk : ∀ r, Words.cw ((V (Proc.devRef .tc main_v1) : Vec Ideal S558848x1 .i32) (ix2 r 0)) = (k r).val) (r : Fin 558848) :
    ((G : Vec Ideal S558848x1 .f32) (ix2 r 0) : EReal) = ((Loss.loss (f r) (k r) : ℝ) : EReal) := by
  obtain ⟨t, i, d0, d1, hr, e⟩ := loss_row V c G h r
  have hlt : t.val * 4096 + i.val < 558848 := hr ▸ r.isLt
  have er : (⟨t.val * 4096 + i.val, hlt⟩ : Fin 558848) = r := Fin.ext hr.symm
  refine e.trans (loss_at _ _ i (f r) (k r) (fun a => ?_) ?_)
  · exact (blk0_0_at V t d0 i a hlt).trans (er ▸ hx r a)
  · exact (congrArg Words.cw (blk0_1_at V t d1 i 0 hlt)).trans (er ▸ hk r)

/-- The accumulator holds what all the rows count. -/
theorem acc_value (G : Buf (Elt Ideal) ((cfg0.win 5).arr.view.loc (c.tc : Thread nD τ)))
    (h : (rdat0 (U := U) V c).ArrAt 5 cfg0.N G) :
    ((G : Vec Ideal S1x1 .f32) (ix2 0 0) : EReal) = ∑ b : Fin 64, ∑ j : Fin 8732, rowTerm V (Stage.flat b j) := by
  obtain ⟨X, hX, e⟩ := acc_last V c G h
  have hs := acc_leaves (U := U) V c (fun t => ∑ j ∈ Finset.range 4096, rowTermN V (t * 4096 + j))
    (fun t d1 d2 d3 => point_at V t d1 d2 d3) 136 lastPoint.isLt X hX
  exact e.trans (hs.trans ((all_points V).trans (rows_sum V)))

end Cert.First
-- ==== Proof.SecondArrays.lean ====
/- What the second call finds in its staging buffers, the whole arrays, and what it leaves in its two result arrays. -/
module

public import proofs.«01_k».proof.Proof.FirstArrays

@[expose] public section

set_option maxRecDepth 16384

noncomputable section

namespace Cert.First

open Cert.KernelIdeal Cert.KernelIdeal.Gen Cert.KernelIdeal.Own
open Idealize.ShloMosaic Idealize.ShloMosaic.TcCoe
open Idealize.SL Idealize.SL.RA
open Idealize.ShloMosaic.Pipeline

variable {U : Type} [URA U]
variable (V : Valuation τ sig (Elt Ideal)) (c : Dev nD)

theorem blk1_0_eq (t : Fin cfg1.N) (d) : blk1 V 0 t d = V (Proc.devRef .tc main_v5) := by
  funext idx
  obtain ⟨y, hy, e⟩ := fill_at win1_0 t d (V (Proc.devRef .tc main_v5)) idx (fun a => by
    have h := (idx a).isLt
    fin_cases a
    · show 0 * 64 + (idx 0).val < 64
      have h : (idx 0).val < 64 := (idx 0).isLt
      omega
    · show 0 * 8732 + (idx 1).val < 8732
      have h : (idx 1).val < 8732 := (idx 1).isLt
      omega)
  refine e.trans ?_
  show V (Proc.devRef .tc main_v5) ((win1_0.rect t).emb y) = _
  refine congrArg _ (Shape.idx_ext₂ ?_ ?_)
  · rw [Window.rect_emb_val_of_index_zero win1_0 t 0 rfl, hy]
  · rw [Window.rect_emb_val_of_index_zero win1_0 t 1 rfl, hy]

theorem blk1_1_eq (t : Fin cfg1.N) (d) : blk1 V 1 t d = V (Proc.devRef .tc main_arg2) := by
  funext idx
  obtain ⟨y, hy, e⟩ := fill_at win1_1 t d (V (Proc.devRef .tc main_arg2)) idx (fun a => by
    fin_cases a
    · show 0 * 64 + (idx 0).val < 64
      have h : (idx 0).val < 64 := (idx 0).isLt
      omega
    · show 0 * 8732 + (idx 1).val < 8732
      have h : (idx 1).val < 8732 := (idx 1).isLt
      omega)
  refine e.trans ?_
  show V (Proc.devRef .tc main_arg2) ((win1_1.rect t).emb y) = _
  refine congrArg _ (Shape.idx_ext₂ ?_ ?_)
  · rw [Window.rect_emb_val_of_index_zero win1_1 t 0 rfl, hy]
  · rw [Window.rect_emb_val_of_index_zero win1_1 t 1 rfl, hy]

theorem blk1_2_eq (t : Fin cfg1.N) (d) : blk1 V 2 t d = V (Proc.devRef .tc main_v4_1) := by
  funext idx
  obtain ⟨y, hy, e⟩ := fill_at win1_2 t d (V (Proc.devRef .tc main_v4_1)) idx (fun a => by
    fin_cases a
    · show 0 * 1 + (idx 0).val < 1
      have h : (idx 0).val < 1 := (idx 0).isLt
      omega
    · show 0 * 1 + (idx 1).val < 1
      have h : (idx 1).val < 1 := (idx 1).isLt
      omega)
  refine e.trans ?_
  show V (Proc.devRef .tc main_v4_1) ((win1_2.rect t).emb y) = _
  refine congrArg _ (Shape.idx_ext₂ ?_ ?_)
  · rw [Window.rect_emb_val_of_index_zero win1_2 t 0 rfl, hy]
  · rw [Window.rect_emb_val_of_index_zero win1_2 t 1 rfl, hy]

/-- The second call's only point. -/
def onlyPoint : Fin cfg1.N := ⟨0, by decide⟩

theorem whole3 : (cfg1.win 3).WholeAt onlyPoint := by decide +kernel

theorem whole4 : (cfg1.win 4).WholeAt onlyPoint := by decide +kernel

/-- The first result array ends as the body left its buffer, -/
theorem conf_last (G : Buf (Elt Ideal) ((cfg1.win 3).arr.view.loc (c.tc : Thread nD τ)))
    (h : (rdat1 (U := U) V c).ArrAt 3 cfg1.N G) :
    ∃ X : Vec Ideal S1x1 .f32, (rdat1 (U := U) V c).Leaves 3 onlyPoint X ∧
      (G : Vec Ideal S1x1 .f32) (ix2 0 0) = X (ix2 0 0) := by
  obtain ⟨X, hX, hG⟩ := h.emb_eq_of_wholeAt whole3
  exact ⟨X, hX, (hG (ix2 0 0)).trans rfl⟩

/-- and so does the second. -/
theorem loc_last (G : Buf (Elt Ideal) ((cfg1.win 4).arr.view.loc (c.tc : Thread nD τ)))
    (h : (rdat1 (U := U) V c).ArrAt 4 cfg1.N G) :
    ∃ X : Vec Ideal S1x1 .f32, (rdat1 (U := U) V c).Leaves 4 onlyPoint X ∧
      (G : Vec Ideal S1x1 .f32) (ix2 0 0) = X (ix2 0 0) := by
  obtain ⟨X, hX, hG⟩ := h.emb_eq_of_wholeAt whole4
  exact ⟨X, hX, (hG (ix2 0 0)).trans rfl⟩

theorem conf_left (X : Vec Ideal S1x1 .f32) (h : (rdat1 (U := U) V c).Leaves 3 onlyPoint X) :
    X = conf1 (F := Ideal) (V (Proc.devRef .tc main_v5)) (V (Proc.devRef .tc main_arg2)) := by
  obtain ⟨Y, -, d0, d1, hd⟩ := h
  rw [hd, blk1_0_eq, blk1_1_eq]

theorem loc_left (X : Vec Ideal S1x1 .f32) (h : (rdat1 (U := U) V c).Leaves 4 onlyPoint X) :
    X = k1_pay11 (F := Ideal) (k1_pay15 (F := Ideal) (V (Proc.devRef .tc main_arg2))) (V (Proc.devRef .tc main_v4_1)) := by
  obtain ⟨Y, -, d1, d2, hd⟩ := h
  rw [hd, blk1_1_eq, blk1_2_eq]

/-- The first result array. -/
theorem conf_arr (G : Buf (Elt Ideal) ((cfg1.win 3).arr.view.loc (c.tc : Thread nD τ)))
    (h : (rdat1 (U := U) V c).ArrAt 3 cfg1.N G) :
    (G : Vec Ideal S1x1 .f32) (ix2 0 0) = conf1 (F := Ideal) (V (Proc.devRef .tc main_v5)) (V (Proc.devRef .tc main_arg2)) (ix2 0 0) := by
  obtain ⟨X, hX, hG⟩ := conf_last V c G h
  exact hG.trans (congrFun (conf_left V c X hX) (ix2 0 0))

/-- The second result array. -/
theorem loc_arr (G : Buf (Elt Ideal) ((cfg1.win 4).arr.view.loc (c.tc : Thread nD τ)))
    (h : (rdat1 (U := U) V c).ArrAt 4 cfg1.N G) :
    (G : Vec Ideal S1x1 .f32) (ix2 0 0)
      = k1_pay11 (F := Ideal) (k1_pay15 (F := Ideal) (V (Proc.devRef .tc main_arg2))) (V (Proc.devRef .tc main_v4_1)) (ix2 0 0) := by
  obtain ⟨X, hX, hG⟩ := loc_last V c G h
  exact hG.trans (congrFun (loc_left V c X hX) (ix2 0 0))

end Cert.First
-- ==== Proof.HostReads.lean ====
/- The reshapes between the calls, read at an index. -/
module

public import proofs.«01_k».proof.Proof.SecondArrays
public import proofs.«01_k».proof.Proof.RefLoss
public import Idealize.ShloMosaic.Lib.StableHlo.RunRead

@[expose] public section

set_option maxRecDepth 16384

noncomputable section

namespace Cert.First

open Cert.KernelIdeal Cert.KernelIdeal.Gen Cert.KernelIdeal.Own
open Idealize.ShloMosaic Idealize.ShloMosaic.TcCoe

variable (V : Valuation τ sig (Elt Ideal))

theorem read_v0 : StableHlo.after hostOps0 V (Proc.devRef .tc main_v0)
    = shapeCast S558848x81 (V (Proc.devRef .tc main_arg0) : Vec Ideal S64x8732x81 .f32) shapeCasts_S64x8732x81_S558848x81 := by
  after_results_simp <;> rfl

theorem read_v1 : StableHlo.after hostOps0 V (Proc.devRef .tc main_v1)
    = shapeCast S558848x1 (V (Proc.devRef .tc main_arg2) : Vec Ideal S64x8732 .i32) shapeCasts_S64x8732_S558848x1 := by
  after_results_simp <;> rfl

theorem read_v2 : StableHlo.after hostOps0 V (Proc.devRef .tc main_v2)
    = shapeCast S558848x4 (V (Proc.devRef .tc main_arg1) : Vec Ideal S64x8732x4 .f32) shapeCasts_S64x8732x4_S558848x4 := by
  after_results_simp <;> rfl

theorem read_v3 : StableHlo.after hostOps0 V (Proc.devRef .tc main_v3)
    = shapeCast S558848x4 (V (Proc.devRef .tc main_arg3) : Vec Ideal S64x8732x4 .f32) shapeCasts_S64x8732x4_S558848x4 := by
  after_results_simp <;> rfl

theorem read_v5 : StableHlo.after hostOps1 V (Proc.devRef .tc main_v5)
    = shapeCast S64x8732 (V (Proc.devRef .tc main_v4_0) : Vec Ideal S558848x1 .f32) shapeCasts_S558848x1_S64x8732 := by
  after_results_simp <;> rfl

theorem read_v7 : StableHlo.after hostOps2 V (Proc.devRef .tc main_v7)
    = shapeCast S_ (V (Proc.devRef .tc main_v6_0) : Vec Ideal S1x1 .f32) shapeCasts_S1x1_S_ := by
  after_results_simp <;> rfl

theorem read_v8 : StableHlo.after hostOps2 V (Proc.devRef .tc main_v8)
    = shapeCast S_ (V (Proc.devRef .tc main_v6_1) : Vec Ideal S1x1 .f32) shapeCasts_S1x1_S_ := by
  after_results_simp <;> rfl

theorem boxes_at {α : Type} (x : S64x8732x4.Idx → α) (r : Fin 558848) (c : Fin 4) :
    shapeCast S558848x4 x shapeCasts_S64x8732x4_S558848x4 (ix2 r c) = x (ix3 (Stage.rowOf r) (Stage.placeOf r) c) := by
  pointwise []
  rfl

theorem scalar_at {α : Type} (x : S1x1.Idx → α) : shapeCast S_ x shapeCasts_S1x1_S_ ix0 = x (ix2 0 0) := by
  pointwise []

end Cert.First
-- ==== Proof.RefPre.lean ====
/- What the precondition gives: real logits, classes below 81, and in every row a set of mined anchors that is decided. -/
module

public import proofs.«01_k».proof.Proof.RefMined

@[expose] public section

set_option maxRecDepth 16384

noncomputable section

namespace Cert.Stage

open Cert.ReferenceIdeal Cert.ReferenceIdeal.Gen
open Idealize.ShloMosaic Idealize.ShloMosaic.TcCoe

/-- A bounded extended real is real. -/
theorem real_of_abs_le (a : EReal) (B : ℝ) (h : max a (-a) ≤ (B : EReal)) : ∃ r : ℝ, a = (r : EReal) ∧ |r| ≤ B := by
  obtain ⟨h1, h2⟩ := max_le_iff.mp h
  induction a using EReal.rec with
  | bot => simp at h2
  | top => simp at h1
  | coe r =>
    refine ⟨r, rfl, abs_le.mpr ⟨?_, EReal.coe_le_coe_iff.mp h1⟩⟩
    rw [← EReal.coe_neg, EReal.coe_le_coe_iff] at h2
    linarith

variable (x : FVec Ideal S64x8732x81 .f32) (tg : Vec Ideal S64x8732 .i32)

theorem cmp_ole (a c : EReal) (h : Ideal.cmp .ole a c = 1#1) : a ≤ c := of_decide_eq_true (Words.ofBool_one _ h)

theorem cmp_oge (a c : EReal) (h : Ideal.cmp .oge a c = 1#1) : c ≤ a := of_decide_eq_true (Words.ofBool_one _ h)

theorem logits_real (h : cmpf .ole (Host.absf x) (broadcastInDim S64x8732x81 ![] preFacts.bcast_S_S64x8732x81
    (constant S_ .f32 0x71800000#32)) = fun _ => 1#1) (b : Fin 64) (j : Fin 8732) (c : Fin 81) :
    ∃ r : ℝ, (x (ix3 b j c) : EReal) = (r : EReal) ∧ |r| ≤ 2 ^ 100 := by
  have h' := congrFun h (ix3 b j c)
  have e : cmpf .ole (Host.absf x) (broadcastInDim S64x8732x81 ![] preFacts.bcast_S_S64x8732x81
      (constant S_ .f32 0x71800000#32)) (ix3 b j c)
      = Ideal.cmp .ole (max (x (ix3 b j c) : EReal) (-(x (ix3 b j c) : EReal))) (Ideal.ofBits .f32 0x71800000#32 : EReal) := rfl
  rw [e] at h'
  have h2 := cmp_ole _ _ h'
  rw [Floats.ofBits_bound] at h2
  exact real_of_abs_le _ _ h2

theorem class_small (h : cmpi .slt tg (broadcastInDim S64x8732 ![] bcast_S_S64x8732 (constantI S_ 32 81#32)) = fun _ => 1#1)
    (b : Fin 64) (j : Fin 8732) : Words.cw (tg (ix2 b j)) < 81 := by
  have h' := congrFun h (ix2 b j)
  have e : cmpi .slt tg (broadcastInDim S64x8732 ![] bcast_S_S64x8732 (constantI S_ 32 81#32)) (ix2 b j)
      = BitVec.ofBool (BitVec.slt (tg (ix2 b j)) 81#32) := rfl
  rw [e, BitVec.slt_eq_decide] at h'
  have h2 := of_decide_eq_true (Words.ofBool_one _ h')
  have h3 : (81#32).toInt = 81 := by decide
  rw [h3] at h2
  unfold Words.cw
  omega

variable (ξ : Fin 64 → Fin 8732 → Fin 81 → ℝ) (κ : Fin 64 → Fin 8732 → Fin 81)

theorem whole_at (b : Fin 64) : whole tg (ix2 b 0)
    = BitVec.ofBool (decide (8732 - Second.np tg b ≤ Second.kk tg b) || decide (Second.kk tg b ≤ 0)) := by
  have e : whole tg (ix2 b 0) = IntOp.ori (IntOp.cmpi .sge (mine tg (ix2 b 0)) (IntOp.subi (8732#32) (numPos tg (ix2 b 0))))
      (IntOp.cmpi .sle (mine tg (ix2 b 0)) 0#32) := by
    unfold whole
    generalize mine tg = m
    generalize numPos tg = n
    pointwise []
  have := kk_le tg b
  rw [e, mine_at, numPos_at, Words.subi_nat _ (Second.np_le tg b), Words.sge_nat _ _ (by omega) (by omega),
    Words.sle_nat _ 0 (by omega) (by omega), Words.ori_bool]

theorem apart_at (b : Fin 64) (h : apart x tg (ix2 b 0) = 1#1) :
    ((2⁻¹ ^ 23 : ℝ) : EReal) * (least x tg (ix2 b 0) : EReal) + ((2⁻¹ ^ 126 : ℝ) : EReal)
      ≤ (least x tg (ix2 b 0) : EReal) - (largest x tg (ix2 b 0) : EReal) := by
  have e : ∀ l g : FVec Ideal S64x1 .f32, cmpf .oge (subf l g)
      (addf (mulf (broadcastInDim S64x1 ![] bcast_S_S64x1 (constant S_ .f32 0x34000000#32)) l)
        (broadcastInDim S64x1 ![] bcast_S_S64x1 (constant S_ .f32 0x00800000#32))) (ix2 b 0)
      = Ideal.cmp .oge ((l (ix2 b 0) : EReal) - (g (ix2 b 0) : EReal))
        ((Ideal.ofBits .f32 0x34000000#32 : EReal) * (l (ix2 b 0) : EReal) + (Ideal.ofBits .f32 0x00800000#32 : EReal)) := fun _ _ => rfl
  unfold apart at h
  rw [e] at h
  have h2 := cmp_oge _ _ h
  rw [Floats.ofBits_ulp, Floats.ofBits_tiny] at h2
  exact h2

variable (hx : ∀ b j c, x (ix3 b j c) = ((ξ b j c : ℝ) : EReal)) (hκ : ∀ b j, Words.cw (tg (ix2 b j)) = (κ b j).val)
  (hB : ∀ b j c, |ξ b j c| ≤ 2 ^ 100)

include hB in
theorem vc_le (b : Fin 64) (j : Fin 8732) : vc tg ξ κ b j ≤ 2 ^ 127 := by
  have h := Loss.loss_le (ξ b j) (κ b j) (2 ^ 100) (hB b j)
  unfold vc Second.vv ce
  split_ifs
  · positivity
  · refine h.trans ?_
    norm_num

include hx hκ hB in
/-- The mined anchors of a decided row. -/
theorem chosen_of (h : ori (whole tg) (apart x tg) = fun _ => 1#1) (b : Fin 64) :
    Second.Chosen (vc tg ξ κ b) (Second.np tg b) (Second.kk tg b) (chosen tg ξ κ b) := by
  have hk := kk_le tg b
  have hcard : (chosen tg ξ κ b).card = Second.kk tg b := first_card _ _ (by omega)
  refine ⟨hcard, first_top _ _, ?_⟩
  have h' : IntOp.ori (whole tg (ix2 b 0)) (apart x tg (ix2 b 0)) = 1#1 := congrFun h (ix2 b 0)
  by_cases h0 : Second.kk tg b = 0
  · exact .inl (.inr h0)
  rcases Words.ori_one _ _ h' with hw | ha
  · rw [whole_at] at hw
    have := Words.ofBool_one _ hw
    simp only [Bool.or_eq_true, decide_eq_true_eq] at this
    exact .inl (this.imp id fun h => by omega)
  · right
    have hne : (chosen tg ξ κ b).Nonempty := Finset.card_pos.mp (by omega)
    obtain ⟨i₀, hi₀, hmin, hl⟩ := least_at x tg ξ κ hx hκ b hne
    obtain ⟨c, hc0, hc1, hc, hg⟩ := largest_at x tg ξ κ hx hκ b (2 ^ 127) (by positivity) (vc_le tg ξ κ hB b)
    refine ⟨i₀, hi₀, hmin, c, hc0, hc1, hc, ?_⟩
    have ha' := apart_at x tg b ha
    rw [hl, hg, ← EReal.coe_mul, ← EReal.coe_add, ← EReal.coe_sub, EReal.coe_le_coe_iff] at ha'
    exact ha'

end Cert.Stage
end
-- ==== Proof.KernelValue.lean ====
/- The kernel's two results, equal to the reference's. -/
module

public import proofs.«01_k».proof.Proof.FirstValue
public import proofs.«01_k».proof.Proof.HostReads
public import proofs.«01_k».proof.Proof.Final
public import proofs.«01_k».proof.Proof.RefPre
public import proofs.«01_k».proof.Proof.RefValue
public import proofs.«01_k».proof.Proof.IFrame

@[expose] public section

set_option maxRecDepth 16384

noncomputable section

namespace Cert.First

open Cert.KernelIdeal Cert.KernelIdeal.Gen Cert.KernelIdeal.Own
open Idealize.ShloMosaic Idealize.ShloMosaic.TcCoe
open Idealize.SL Idealize.SL.RA
open Idealize.ShloMosaic.Pipeline

variable {U : Type} [URA U]
variable (V W : Valuation τ sig (Elt Ideal)) (c : Dev nD)
variable (x : Vec Ideal S64x8732x81 .f32) (tg : Vec Ideal S64x8732 .i32) (p q : Vec Ideal S64x8732x4 .f32)

/-- The table of losses handed to the second call. -/
theorem table_value (h0 : V (Proc.devRef .tc main_v0) = shapeCast S558848x81 x shapeCasts_S64x8732x81_S558848x81)
    (h1 : V (Proc.devRef .tc main_v1) = shapeCast S558848x1 tg shapeCasts_S64x8732_S558848x1)
    (ξ : Fin 64 → Fin 8732 → Fin 81 → ℝ) (κ : Fin 64 → Fin 8732 → Fin 81)
    (hx : ∀ b j a, (x (ix3 b j a) : EReal) = ((ξ b j a : ℝ) : EReal)) (hk : ∀ b j, Words.cw (tg (ix2 b j)) = (κ b j).val)
    (G : Buf (Elt Ideal) ((cfg0.win 4).arr.view.loc (c.tc : Thread nD τ))) (h : (rdat0 (U := U) V c).ArrAt 4 cfg0.N G)
    (b : Fin 64) (j : Fin 8732) :
    (shapeCast S64x8732 (G : Vec Ideal S558848x1 .f32) shapeCasts_S558848x1_S64x8732 (ix2 b j) : EReal)
      = ((Stage.ce ξ κ b j : ℝ) : EReal) := by
  have e := loss_value V c G h (fun r => ξ (Stage.rowOf r) (Stage.placeOf r)) (fun r => κ (Stage.rowOf r) (Stage.placeOf r))
    (fun r a => (congrFun h0 (ix2 r a)).trans ((Stage.rows_at x r a).trans (hx _ _ a)))
    (fun r => (congrArg Words.cw ((congrFun h1 (ix2 r 0)).trans (Stage.column_at tg r))).trans (hk _ _)) (Stage.flat b j)
  simp only [Stage.rowOf_flat, Stage.placeOf_flat] at e
  exact (Stage.table_at (G : Vec Ideal S558848x1 .f32) b j).trans e

/-- What a row counts, in the arguments. -/
theorem rowTerm_value (h1 : V (Proc.devRef .tc main_v1) = shapeCast S558848x1 tg shapeCasts_S64x8732_S558848x1)
    (h2 : V (Proc.devRef .tc main_v2) = shapeCast S558848x4 p shapeCasts_S64x8732x4_S558848x4)
    (h3 : V (Proc.devRef .tc main_v3) = shapeCast S558848x4 q shapeCasts_S64x8732x4_S558848x4) (b : Fin 64) (j : Fin 8732) :
    rowTerm V (Stage.flat b j) = if Second.P tg b j then ∑ a, Stage.sm (p (ix3 b j a)) (q (ix3 b j a)) else 0 := by
  have e1 := (congrFun h1 (ix2 (Stage.flat b j) 0)).trans (Stage.column_at tg (Stage.flat b j))
  have e2 := fun a => (congrFun h2 (ix2 (Stage.flat b j) a)).trans (boxes_at p (Stage.flat b j) a)
  have e3 := fun a => (congrFun h3 (ix2 (Stage.flat b j) a)).trans (boxes_at q (Stage.flat b j) a)
  simp only [Stage.rowOf_flat, Stage.placeOf_flat] at e1 e2 e3
  unfold rowTerm Second.P
  rw [e1]
  simp only [e2, e3]

/-- The second result's numerator over its denominator. -/
theorem loc_value (h1 : V (Proc.devRef .tc main_v1) = shapeCast S558848x1 tg shapeCasts_S64x8732_S558848x1)
    (h2 : V (Proc.devRef .tc main_v2) = shapeCast S558848x4 p shapeCasts_S64x8732x4_S558848x4)
    (h3 : V (Proc.devRef .tc main_v3) = shapeCast S558848x4 q shapeCasts_S64x8732x4_S558848x4)
    (G : Buf (Elt Ideal) ((cfg0.win 5).arr.view.loc (c.tc : Thread nD τ))) (h : (rdat0 (U := U) V c).ArrAt 5 cfg0.N G)
    (y : Vec Ideal S1x1 .f32) (hy : y (ix2 0 0) = (G : Vec Ideal S1x1 .f32) (ix2 0 0)) :
    (k1_pay11 (k1_pay15 (F := Ideal) tg) y (ix2 0 0) : EReal) = Stage.loc p q tg ix0 := by
  refine (Second.loc1_at tg y).trans (Eq.trans ?_ (Stage.loc_at tg p q).symm)
  have e : (y (ix2 0 0) : EReal) = ∑ b : Fin 64, ∑ j : Fin 8732, rowTerm V (Stage.flat b j) := hy.trans (acc_value V c G h)
  refine congrArg (fun s => Ideal.div s (Second.den tg)) (e.trans ?_)
  exact Finset.sum_congr rfl fun b _ => Finset.sum_congr rfl fun j _ => rowTerm_value V tg p q h1 h2 h3 b j

open Stage in
/-- The first result. -/
theorem conf_value
    (hp1 : cmpf .ole (Host.absf x) (broadcastInDim S64x8732x81 ![] preFacts.bcast_S_S64x8732x81
      (constant (F := Ideal) Cert.ReferenceIdeal.S_ .f32 0x71800000#32)) = fun _ => 1#1)
    (hp2 : cmpi .slt tg (broadcastInDim S64x8732 ![] Cert.ReferenceIdeal.Gen.bcast_S_S64x8732 (constantI Cert.ReferenceIdeal.S_ 32 81#32)) = fun _ => 1#1)
    (hp3 : ori (whole tg) (apart x tg) = fun _ => 1#1)
    (h0 : V (Proc.devRef .tc main_v0) = shapeCast S558848x81 x shapeCasts_S64x8732x81_S558848x81)
    (h1 : V (Proc.devRef .tc main_v1) = shapeCast S558848x1 tg shapeCasts_S64x8732_S558848x1)
    (G : Buf (Elt Ideal) ((cfg0.win 4).arr.view.loc (c.tc : Thread nD τ))) (h : (rdat0 (U := U) V c).ArrAt 4 cfg0.N G) :
    (conf1 (F := Ideal) (shapeCast S64x8732 (G : Vec Ideal S558848x1 .f32) shapeCasts_S558848x1_S64x8732) tg (ix2 0 0) : EReal)
      = conf x tg ix0 := by
  choose ξ hξ using logits_real x hp1
  have hx := fun b j a => (hξ b j a).1
  have hB := fun b j a => (hξ b j a).2
  let κ : Fin 64 → Fin 8732 → Fin 81 := fun b j => ⟨Words.cw (tg (ix2 b j)), class_small tg hp2 b j⟩
  have hk : ∀ b j, Words.cw (tg (ix2 b j)) = (κ b j).val := fun _ _ => rfl
  refine (Second.conf1_at _ tg (ce ξ κ) (table_value V c x tg h0 h1 ξ κ hx hk G h) (fun b j => Loss.loss_nonneg _ _)
    (chosen tg ξ κ) (chosen_of x tg ξ κ hx hk hB hp3)).trans (conf_at x tg ξ κ hx hk).symm

end Cert.First
-- ==== Proof.Reached.lean ====
/- The two result buffers at the end of the kernel's run. -/
module

public import proofs.«01_k».proof.Proof.KernelValue

@[expose] public section

set_option maxRecDepth 16384

noncomputable section

namespace Cert.First

open Cert.KernelIdeal Cert.KernelIdeal.Gen Cert.KernelIdeal.Own
open Idealize.ShloMosaic Idealize.ShloMosaic.TcCoe
open Idealize.SL Idealize.SL.RA
open Idealize.ShloMosaic.Pipeline

variable (m : (ℓ : Loc nD τ sig) → Buf (Elt Ideal) ℓ) (c : Dev nD) (V' : Valuation τ sig (Elt Ideal))

theorem launch_v0 : V1 m c (Proc.devRef .tc main_v0)
    = shapeCast S558848x81 (m ((c.tc : Thread nD τ).loc main_arg0) : Vec Ideal S64x8732x81 .f32) shapeCasts_S64x8732x81_S558848x81 :=
  read_v0 (V0 m c)

theorem launch_v1 : V1 m c (Proc.devRef .tc main_v1)
    = shapeCast S558848x1 (m ((c.tc : Thread nD τ).loc main_arg2) : Vec Ideal S64x8732 .i32) shapeCasts_S64x8732_S558848x1 :=
  read_v1 (V0 m c)

theorem launch_v2 : V1 m c (Proc.devRef .tc main_v2)
    = shapeCast S558848x4 (m ((c.tc : Thread nD τ).loc main_arg1) : Vec Ideal S64x8732x4 .f32) shapeCasts_S64x8732x4_S558848x4 :=
  read_v2 (V0 m c)

theorem launch_v3 : V1 m c (Proc.devRef .tc main_v3)
    = shapeCast S558848x4 (m ((c.tc : Thread nD τ).loc main_arg3) : Vec Ideal S64x8732x4 .f32) shapeCasts_S64x8732x4_S558848x4 :=
  read_v3 (V0 m c)

/-- The classes are still as launched when the second call reads them. -/
theorem second_arg2 (W2 : Valuation τ sig (Elt Ideal)) (h : rel0 (U := UU) (V1 m c) W2 c) :
    StableHlo.after hostOps1 W2 (Proc.devRef .tc main_arg2) = m ((c.tc : Thread nD τ).loc main_arg2) := by
  have e1 : StableHlo.after hostOps1 W2 (Proc.devRef .tc main_arg2) = W2 (Proc.devRef .tc main_arg2) :=
    StableHlo.after_of_writes_sub hostOps1 _ hostOps1_writes (by decide)
  rw [e1, h.1 main_arg2 (by decide) (by decide)]
  exact V1_of m c main_arg2 (by decide)

/-- The accumulator is untouched between the calls. -/
theorem second_acc (W2 : Valuation τ sig (Elt Ideal)) :
    StableHlo.after hostOps1 W2 (Proc.devRef .tc main_v4_1) = W2 (Proc.devRef .tc main_v4_1) :=
  StableHlo.after_of_writes_sub hostOps1 _ hostOps1_writes (by decide)

/-- A buffer of one number, read off the kernel's. -/
theorem scalar_ext {α : Type} (f g : S_.Idx → α) (h : f ix0 = g ix0) : f = g := funext fun i => by
  have e : i = ix0 := funext fun a => a.elim0
  rw [e]; exact h

/-- The second result. -/
theorem reach_loc (h : Reach m c V') : (V' (Proc.devRef .tc main_v8) : Vec Ideal S_ .f32)
    = Stage.loc (m ((c.tc : Thread nD τ).loc main_arg1)) (m ((c.tc : Thread nD τ).loc main_arg3)) (m ((c.tc : Thread nD τ).loc main_arg2)) := by
  obtain ⟨W2, W4, h0, h1, rfl⟩ := h
  refine scalar_ext _ _ ?_
  have e1 := (congrFun (read_v8 W4) ix0).trans (scalar_at (W4 (Proc.devRef .tc main_v6_1) : Vec Ideal S1x1 .f32))
  have e2 := loc_arr (U := UU) _ c _ h1.2.2
  rw [second_arg2 m c W2 h0] at e2
  exact e1.trans (e2.trans (loc_value (U := UU) (V1 m c) c _ _ _ (launch_v1 m c) (launch_v2 m c) (launch_v3 m c) _ h0.2.2 _
    (congrFun (second_acc W2) (ix2 0 0))))

open Stage in
/-- The first result. -/
theorem reach_conf (h : Reach m c V')
    (hp1 : cmpf .ole (Host.absf (m ((c.tc : Thread nD τ).loc main_arg0) : FVec Ideal S64x8732x81 .f32))
      (broadcastInDim S64x8732x81 ![] preFacts.bcast_S_S64x8732x81
      (constant (F := Ideal) Cert.ReferenceIdeal.S_ .f32 0x71800000#32)) = fun _ => 1#1)
    (hp2 : cmpi .slt (m ((c.tc : Thread nD τ).loc main_arg2) : IVec S64x8732 32)
      (broadcastInDim S64x8732 ![] Cert.ReferenceIdeal.Gen.bcast_S_S64x8732 (constantI Cert.ReferenceIdeal.S_ 32 81#32)) = fun _ => 1#1)
    (hp3 : ori (whole (m ((c.tc : Thread nD τ).loc main_arg2)))
      (apart (m ((c.tc : Thread nD τ).loc main_arg0)) (m ((c.tc : Thread nD τ).loc main_arg2))) = fun _ => 1#1) :
    (V' (Proc.devRef .tc main_v7) : Vec Ideal S_ .f32)
      = conf (m ((c.tc : Thread nD τ).loc main_arg0)) (m ((c.tc : Thread nD τ).loc main_arg2)) := by
  obtain ⟨W2, W4, h0, h1, rfl⟩ := h
  refine scalar_ext _ _ ?_
  have e1 := (congrFun (read_v7 W4) ix0).trans (scalar_at (W4 (Proc.devRef .tc main_v6_0) : Vec Ideal S1x1 .f32))
  have e2 := conf_arr (U := UU) _ c _ h1.2.1
  rw [second_arg2 m c W2 h0, read_v5 W2] at e2
  exact e1.trans (e2.trans (conf_value (U := UU) (V1 m c) c _ _ hp1 hp2 hp3 (launch_v0 m c) (launch_v1 m c) _ h0.2.1))

end Cert.First
-- ==== Proof.KernelRun.lean ====
/- The kernel's run under the precondition: its two results are the reference's, its arguments kept. -/
module

public import proofs.«01_k».proof.Proof.Reached

@[expose] public section

noncomputable section

namespace Cert.First

open Cert.KernelIdeal Cert.KernelIdeal.Gen Cert.KernelIdeal.Own
open Idealize.ShloMosaic Idealize.ShloMosaic.TcCoe
open Idealize.SL Idealize.SL.RA
open Idealize.SL.Sem
open Idealize.ShloMosaic.Pipeline

/-- The precondition, as the claim states it. -/
def Decided (m : (ℓ : Loc nD τ sig) → Buf (Elt Ideal) ℓ) (c : Dev nD) : Prop :=
  (Cert.Pre_mining_is_decided.fn (F := Ideal) (m ((c.tc : Thread nD τ).loc main_arg0)) (m ((c.tc : Thread nD τ).loc main_arg1))
      (m ((c.tc : Thread nD τ).loc main_arg2)) (m ((c.tc : Thread nD τ).loc main_arg3))).1 = (fun _ => 1#1)
  ∧ (Cert.Pre_mining_is_decided.fn (F := Ideal) (m ((c.tc : Thread nD τ).loc main_arg0)) (m ((c.tc : Thread nD τ).loc main_arg1))
      (m ((c.tc : Thread nD τ).loc main_arg2)) (m ((c.tc : Thread nD τ).loc main_arg3))).2.1 = (fun _ => 1#1)
  ∧ (Cert.Pre_mining_is_decided.fn (F := Ideal) (m ((c.tc : Thread nD τ).loc main_arg0)) (m ((c.tc : Thread nD τ).loc main_arg1))
      (m ((c.tc : Thread nD τ).loc main_arg2)) (m ((c.tc : Thread nD τ).loc main_arg3))).2.2 = (fun _ => 1#1)

theorem reach_conf_of (m : (ℓ : Loc nD τ sig) → Buf (Elt Ideal) ℓ) (c : Dev nD) (V' : Valuation τ sig (Elt Ideal)) (hd : Decided m c)
    (h : Reach m c V') : (V' (Proc.devRef .tc main_v7) : Vec Ideal S_ .f32)
      = Stage.conf (m ((c.tc : Thread nD τ).loc main_arg0)) (m ((c.tc : Thread nD τ).loc main_arg2)) := by
  unfold Decided at hd
  rw [Stage.pre_eq] at hd
  exact reach_conf m c V' h hd.1 hd.2.1 hd.2.2

theorem kernel_run (m : (ℓ : Loc nD τ sig) → Buf (Elt Ideal) ℓ) (ρ : Dev nD → PrngReg) (hd : ∀ c, Decided m c) :
    θ_run (defs (F := Ideal)) (onTc (τ := τ) (main (F := Ideal))) ⟨m, fun _ => 0, ρ⟩ (fun r => ∀ c : Dev nD,
      r.2.mem ((c.tc : Thread nD τ).loc main_v7) = Stage.conf (m ((c.tc : Thread nD τ).loc main_arg0)) (m ((c.tc : Thread nD τ).loc main_arg2))
      ∧ r.2.mem ((c.tc : Thread nD τ).loc main_v8)
          = Stage.loc (m ((c.tc : Thread nD τ).loc main_arg1)) (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run m ρ)
  obtain ⟨V', hV, hb⟩ := h.1 c
  have g : ∀ x : Ref sig .tc, (Proc.devRef .tc x : DevRef τ sig) ∈ Pipeline.ucRefs τ sig →
      r.2.mem ((c.tc : Thread nD τ).loc x) = V' (Proc.devRef .tc x) := fun x hx => hb _ hx
  exact ⟨(g main_v7 (Finset.mem_filter.mpr ⟨StableHlo.devRef_mem_tcRefs main_v7, by decide⟩)).trans (reach_conf_of m c V' (hd c) hV),
      (g main_v8 (Finset.mem_filter.mpr ⟨StableHlo.devRef_mem_tcRefs main_v8, by decide⟩)).trans (reach_loc m c V' hV),
      (g main_arg0 (Finset.mem_filter.mpr ⟨StableHlo.devRef_mem_tcRefs main_arg0, by decide⟩)).trans
        (reach_kept m c V' hV main_arg0 (by decide) (by decide) (by decide) (by decide) (by decide) (by decide) (by decide)),
      (g main_arg1 (Finset.mem_filter.mpr ⟨StableHlo.devRef_mem_tcRefs main_arg1, by decide⟩)).trans
        (reach_kept m c V' hV main_arg1 (by decide) (by decide) (by decide) (by decide) (by decide) (by decide) (by decide)),
      (g main_arg2 (Finset.mem_filter.mpr ⟨StableHlo.devRef_mem_tcRefs main_arg2, by decide⟩)).trans
        (reach_kept m c V' hV main_arg2 (by decide) (by decide) (by decide) (by decide) (by decide) (by decide) (by decide)),
      (g main_arg3 (Finset.mem_filter.mpr ⟨StableHlo.devRef_mem_tcRefs main_arg3, by decide⟩)).trans
        (reach_kept m c V' hV main_arg3 (by decide) (by decide) (by decide) (by decide) (by decide) (by decide) (by decide))⟩

end Cert.First
-- ==== Proof.RefRun.lean ====
/- The reference's run: its two results by their stages, its arguments kept. -/
module

public import proofs.«01_k».proof.Proof.Ref

@[expose] public section

noncomputable section

namespace Cert.Stage

open Cert.ReferenceIdeal Cert.ReferenceIdeal.Gen
open Idealize.ShloMosaic Idealize.ShloMosaic.TcCoe
open Idealize.SL.Sem

theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60) = conf (m ((c.tc : Thread nD τ).loc main_arg0)) (m ((c.tc : Thread nD τ).loc main_arg2))
      ∧ r.2.mem ((c.tc : Thread nD τ).loc main_v61)
          = loc (m ((c.tc : Thread nD τ).loc main_arg1)) (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (res_conf m c), (h c).2.1.trans rfl, (h c).2.2⟩) (Value.run m ρ)

end Cert.Stage
-- ==== Proof.Algebraic.lean ====
/- The kernel and the reference leave the same two results. -/
module

public import proofs.«01_k».proof.Defs
public import proofs.«01_k».proof.Proof.KernelRun
public import proofs.«01_k».proof.Proof.RefRun

@[expose] public section

noncomputable section

namespace Cert.Proof

open Idealize.ShloMosaic Idealize.ShloMosaic.TcCoe Idealize.SL.Sem

theorem algebraic : algebraic_KernelIdeal_ReferenceIdeal_pre_mining_is_decided (hKernelIdeal := Cert.KernelIdeal.Gen.facts)
    (hReferenceIdeal := Cert.ReferenceIdeal.Gen.facts) (hPre_mining_is_decided := Cert.Stage.preFacts) := by
  intro m g m' g' hpre hargs
  refine ⟨fun c => Stage.conf (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Stage.loc (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)),
    First.kernel_run m g hpre, ?_⟩
  refine (θ_run Cert.ReferenceIdeal.defs _ _).mono (fun r h c => ?_) (Stage.ref_run m' g')
  obtain ⟨e0, e1, e2, e3⟩ := hargs c
  obtain ⟨h0, h1, hk⟩ := h c
  rw [e0, e2] at h0
  rw [e1, e3, e2] at h1
  exact ⟨h0, h1, hk⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KFrame
public import proofs.«01_k».proof.Proof.IFrame
public import proofs.«01_k».proof.Proof.RFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel, of its idealization and of the reference; the idealization rewrote no operation; and the kernel's
    two results are the reference's wherever the mining is decided. -/
theorem claim : Cert.Claim := ⟨Cert.Kernel.Gen.facts, Cert.KernelIdeal.Gen.facts, Cert.ReferenceIdeal.Gen.facts, Cert.Stage.preFacts,
  fun m g _ => Cert.Kernel.Own.frame m g, fun m g _ => Cert.KernelIdeal.Own.frame m g, fun m g _ => Cert.KernelIdeal.Own.frame m g,
  fun m g _ => Cert.ReferenceIdeal.Own.frame m g, fun m g _ => Cert.ReferenceIdeal.Own.frame m g, trivial, algebraic⟩

end Cert.Proof

end
